-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 1, 1024, 1024]⟩ ⟨4, ![2, 2, 1024, 1024]⟩ (Layout.meshBlock [2, 2] ![[0], [1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1024x1024 : Shape := ⟨4, ![1, 1, 1024, 1024]⟩
abbrev S1024x1024 : Shape := ⟨2, ![1024, 1024]⟩
abbrev S4x256x1024 : Shape := ⟨3, ![4, 256, 1024]⟩
abbrev S24 : Shape := ⟨1, ![24]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S64x1024 : Shape := ⟨2, ![64, 1024]⟩
abbrev S1x64x1024 : Shape := ⟨3, ![1, 64, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1x1x1024x1024, .f32⟩
  | .hbm, ⟨1, _⟩ => ⟨S1024x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S4x256x1024, .f32⟩
  | _, _ => ⟨S1x1x1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v17 : BitVec 32 := Scalar.muli v2 c2_i32_11
  let v18 : BitVec 32 := Scalar.addi c0_i32 v17
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v19 : BitVec 32 := Scalar.muli v6 c1_i32_12
  let v20 : BitVec 32 := Scalar.addi v18 v19
  v20.toNat
def k0_dev2 (d0 : Dev nD) : Nat :=
  let c0_i32_15 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_14 : BitVec 32 := 2#32
  let v21 : BitVec 32 := Scalar.muli v7 c2_i32_14
  let v22 : BitVec 32 := Scalar.addi c0_i32_15 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v23 : BitVec 32 := Scalar.muli v5 c1_i32_16
  let v24 : BitVec 32 := Scalar.addi v22 v23
  v24.toNat
def k0_off1 (d0 : Dev nD) (c0_i32_18 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c256_i32_5 : BitVec 32 := 256#32
  let v10 : BitVec 32 := Scalar.muli v9 c256_i32_5
  let v25 : BitVec 32 := Scalar.addi v10 c0_i32_18
  let c0_i32_30 : BitVec 32 := 0#32
  ![v25.toNat, 0]
def k0_dev3 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v27 : BitVec 32 := Scalar.muli v2 c2_i32_23
  let v28 : BitVec 32 := Scalar.addi c0_i32_24 v27
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v29 : BitVec 32 := Scalar.muli v6 c1_i32_25
  let v30 : BitVec 32 := Scalar.addi v28 v29
  v30.toNat
def k0_off2 (d0 : Dev nD) (c0_i32_19 : BitVec 32) : Fin 2 → Nat :=
  let c512_i32_9 : BitVec 32 := 512#32
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v13 : BitVec 32 := Scalar.subi c1_i32_7 v2
  let c256_i32_8 : BitVec 32 := 256#32
  let v14 : BitVec 32 := Scalar.muli v13 c256_i32_8
  let v15 : BitVec 32 := Scalar.addi c512_i32_9 v14
  let v26 : BitVec 32 := Scalar.addi v15 c0_i32_19
  let c0_i32_40 : BitVec 32 := 0#32
  ![v26.toNat, 0]
def k0_dev4 (d0 : Dev nD) : Nat :=
  let c0_i32_34 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_33 : BitVec 32 := 2#32
  let v39 : BitVec 32 := Scalar.muli v7 c2_i32_33
  let v40 : BitVec 32 := Scalar.addi c0_i32_34 v39
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v41 : BitVec 32 := Scalar.muli v5 c1_i32_35
  let v42 : BitVec 32 := Scalar.addi v40 v41
  v42.toNat
def k0_dev5 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v53 : BitVec 32 := Scalar.muli v2 c2_i32_45
  let v54 : BitVec 32 := Scalar.addi c0_i32_46 v53
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v55 : BitVec 32 := Scalar.muli v6 c1_i32_47
  let v56 : BitVec 32 := Scalar.addi v54 v55
  v56.toNat
def k0_dev6 (d0 : Dev nD) : Nat :=
  let c0_i32_56 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_55 : BitVec 32 := 2#32
  let v65 : BitVec 32 := Scalar.muli v7 c2_i32_55
  let v66 : BitVec 32 := Scalar.addi c0_i32_56 v65
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v67 : BitVec 32 := Scalar.muli v5 c1_i32_57
  let v68 : BitVec 32 := Scalar.addi v66 v67
  v68.toNat
def k0_dev7 (d0 : Dev nD) : Nat :=
  let c0_i32_68 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_67 : BitVec 32 := 2#32
  let v79 : BitVec 32 := Scalar.muli v2 c2_i32_67
  let v80 : BitVec 32 := Scalar.addi c0_i32_68 v79
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_69 : BitVec 32 := 1#32
  let v81 : BitVec 32 := Scalar.muli v6 c1_i32_69
  let v82 : BitVec 32 := Scalar.addi v80 v81
  v82.toNat
def k0_dev8 (d0 : Dev nD) : Nat :=
  let c0_i32_78 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_77 : BitVec 32 := 2#32
  let v91 : BitVec 32 := Scalar.muli v7 c2_i32_77
  let v92 : BitVec 32 := Scalar.addi c0_i32_78 v91
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v93 : BitVec 32 := Scalar.muli v5 c1_i32_79
  let v94 : BitVec 32 := Scalar.addi v92 v93
  v94.toNat
def k0_dev9 (d0 : Dev nD) : Nat :=
  let c0_i32_89 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_88 : BitVec 32 := 2#32
  let v105 : BitVec 32 := Scalar.muli v2 c2_i32_88
  let v106 : BitVec 32 := Scalar.addi c0_i32_89 v105
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_90 : BitVec 32 := 1#32
  let v107 : BitVec 32 := Scalar.muli v6 c1_i32_90
  let v108 : BitVec 32 := Scalar.addi v106 v107
  v108.toNat
def k0_dev10 (d0 : Dev nD) : Nat :=
  let c0_i32_99 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_98 : BitVec 32 := 2#32
  let v117 : BitVec 32 := Scalar.muli v7 c2_i32_98
  let v118 : BitVec 32 := Scalar.addi c0_i32_99 v117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v119 : BitVec 32 := Scalar.muli v5 c1_i32_100
  let v120 : BitVec 32 := Scalar.addi v118 v119
  v120.toNat
def k0_off3 (d0 : Dev nD) (c0_i32_117 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v139 : BitVec 32 := Scalar.addi v8 c0_i32_117
  let v140 : Index := Scalar.indexCast v139
  let c0 : Index := 0#32
  ![v140.toNat, 0]
def k0_off4 (d0 : Dev nD) (c0_i32_117 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v139 : BitVec 32 := Scalar.addi v8 c0_i32_117
  let c0_i32_131 : BitVec 32 := 0#32
  ![v139.toNat, 0]
def k0_dev11 (d0 : Dev nD) : Nat :=
  let c0_i32_125 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_124 : BitVec 32 := 2#32
  let v148 : BitVec 32 := Scalar.muli v7 c2_i32_124
  let v149 : BitVec 32 := Scalar.addi c0_i32_125 v148
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_126 : BitVec 32 := 1#32
  let v150 : BitVec 32 := Scalar.muli v5 c1_i32_126
  let v151 : BitVec 32 := Scalar.addi v149 v150
  v151.toNat
def k0_off5 (d0 : Dev nD) (c0_i32_143 : BitVec 32) : Fin 2 → Nat :=
  let c512_i32 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_6 : BitVec 32 := 256#32
  let v11 : BitVec 32 := Scalar.muli v2 c256_i32_6
  let v12 : BitVec 32 := Scalar.addi c512_i32 v11
  let v170 : BitVec 32 := Scalar.addi v12 c0_i32_143
  let v171 : Index := Scalar.indexCast v170
  let c0_144 : Index := 0#32
  ![v171.toNat, 0]
def k0_off6 (d0 : Dev nD) (c0_i32_143 : BitVec 32) : Fin 2 → Nat :=
  let c512_i32 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_6 : BitVec 32 := 256#32
  let v11 : BitVec 32 := Scalar.muli v2 c256_i32_6
  let v12 : BitVec 32 := Scalar.addi c512_i32 v11
  let v170 : BitVec 32 := Scalar.addi v12 c0_i32_143
  let c0_i32_157 : BitVec 32 := 0#32
  ![v170.toNat, 0]
def k0_dev12 (d0 : Dev nD) : Nat :=
  let c0_i32_151 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_150 : BitVec 32 := 2#32
  let v179 : BitVec 32 := Scalar.muli v2 c2_i32_150
  let v180 : BitVec 32 := Scalar.addi c0_i32_151 v179
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_152 : BitVec 32 := 1#32
  let v181 : BitVec 32 := Scalar.muli v6 c1_i32_152
  let v182 : BitVec 32 := Scalar.addi v180 v181
  v182.toNat
def k0_dev13 (d0 : Dev nD) : Nat :=
  let c0_i32_177 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_176 : BitVec 32 := 2#32
  let v210 : BitVec 32 := Scalar.muli v7 c2_i32_176
  let v211 : BitVec 32 := Scalar.addi c0_i32_177 v210
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_178 : BitVec 32 := 1#32
  let v212 : BitVec 32 := Scalar.muli v5 c1_i32_178
  let v213 : BitVec 32 := Scalar.addi v211 v212
  v213.toNat
def k0_dev14 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v241 : BitVec 32 := Scalar.muli v2 c2_i32_203
  let v242 : BitVec 32 := Scalar.addi c0_i32_204 v241
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_205 : BitVec 32 := 1#32
  let v243 : BitVec 32 := Scalar.muli v6 c1_i32_205
  let v244 : BitVec 32 := Scalar.addi v242 v243
  v244.toNat
def k0_dev15 (d0 : Dev nD) : Nat :=
  let c0_i32_230 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_229 : BitVec 32 := 2#32
  let v272 : BitVec 32 := Scalar.muli v7 c2_i32_229
  let v273 : BitVec 32 := Scalar.addi c0_i32_230 v272
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_231 : BitVec 32 := 1#32
  let v274 : BitVec 32 := Scalar.muli v5 c1_i32_231
  let v275 : BitVec 32 := Scalar.addi v273 v274
  v275.toNat
def k0_dev16 (d0 : Dev nD) : Nat :=
  let c0_i32_257 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_256 : BitVec 32 := 2#32
  let v303 : BitVec 32 := Scalar.muli v2 c2_i32_256
  let v304 : BitVec 32 := Scalar.addi c0_i32_257 v303
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_258 : BitVec 32 := 1#32
  let v305 : BitVec 32 := Scalar.muli v6 c1_i32_258
  let v306 : BitVec 32 := Scalar.addi v304 v305
  v306.toNat
def k0_dev17 (d0 : Dev nD) : Nat :=
  let c0_i32_283 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_282 : BitVec 32 := 2#32
  let v334 : BitVec 32 := Scalar.muli v7 c2_i32_282
  let v335 : BitVec 32 := Scalar.addi c0_i32_283 v334
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_284 : BitVec 32 := 1#32
  let v336 : BitVec 32 := Scalar.muli v5 c1_i32_284
  let v337 : BitVec 32 := Scalar.addi v335 v336
  v337.toNat
def k0_dev18 (d0 : Dev nD) : Nat :=
  let c0_i32_310 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_309 : BitVec 32 := 2#32
  let v365 : BitVec 32 := Scalar.muli v2 c2_i32_309
  let v366 : BitVec 32 := Scalar.addi c0_i32_310 v365
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_311 : BitVec 32 := 1#32
  let v367 : BitVec 32 := Scalar.muli v6 c1_i32_311
  let v368 : BitVec 32 := Scalar.addi v366 v367
  v368.toNat
def k0_dev19 (d0 : Dev nD) : Nat :=
  let c0_i32_344 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_343 : BitVec 32 := 2#32
  let v402 : BitVec 32 := Scalar.muli v2 c2_i32_343
  let v403 : BitVec 32 := Scalar.addi c0_i32_344 v402
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_345 : BitVec 32 := 1#32
  let v404 : BitVec 32 := Scalar.muli v6 c1_i32_345
  let v405 : BitVec 32 := Scalar.addi v403 v404
  v405.toNat
def k0_dev20 (d0 : Dev nD) : Nat :=
  let c0_i32_375 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_374 : BitVec 32 := 2#32
  let v437 : BitVec 32 := Scalar.muli v7 c2_i32_374
  let v438 : BitVec 32 := Scalar.addi c0_i32_375 v437
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_376 : BitVec 32 := 1#32
  let v439 : BitVec 32 := Scalar.muli v5 c1_i32_376
  let v440 : BitVec 32 := Scalar.addi v438 v439
  v440.toNat
def k0_dev21 (d0 : Dev nD) : Nat :=
  let c0_i32_407 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_406 : BitVec 32 := 2#32
  let v472 : BitVec 32 := Scalar.muli v2 c2_i32_406
  let v473 : BitVec 32 := Scalar.addi c0_i32_407 v472
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_408 : BitVec 32 := 1#32
  let v474 : BitVec 32 := Scalar.muli v6 c1_i32_408
  let v475 : BitVec 32 := Scalar.addi v473 v474
  v475.toNat
def k0_dev22 (d0 : Dev nD) : Nat :=
  let c0_i32_439 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_438 : BitVec 32 := 2#32
  let v507 : BitVec 32 := Scalar.muli v7 c2_i32_438
  let v508 : BitVec 32 := Scalar.addi c0_i32_439 v507
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_440 : BitVec 32 := 1#32
  let v509 : BitVec 32 := Scalar.muli v5 c1_i32_440
  let v510 : BitVec 32 := Scalar.addi v508 v509
  v510.toNat
def k0_dev23 (d0 : Dev nD) : Nat :=
  let c0_i32_471 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_470 : BitVec 32 := 2#32
  let v542 : BitVec 32 := Scalar.muli v2 c2_i32_470
  let v543 : BitVec 32 := Scalar.addi c0_i32_471 v542
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_472 : BitVec 32 := 1#32
  let v544 : BitVec 32 := Scalar.muli v6 c1_i32_472
  let v545 : BitVec 32 := Scalar.addi v543 v544
  v545.toNat
def k0_dev24 (d0 : Dev nD) : Nat :=
  let c0_i32_503 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_502 : BitVec 32 := 2#32
  let v577 : BitVec 32 := Scalar.muli v7 c2_i32_502
  let v578 : BitVec 32 := Scalar.addi c0_i32_503 v577
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_504 : BitVec 32 := 1#32
  let v579 : BitVec 32 := Scalar.muli v5 c1_i32_504
  let v580 : BitVec 32 := Scalar.addi v578 v579
  v580.toNat
def k0_dev25 (d0 : Dev nD) : Nat :=
  let c0_i32_535 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_534 : BitVec 32 := 2#32
  let v612 : BitVec 32 := Scalar.muli v2 c2_i32_534
  let v613 : BitVec 32 := Scalar.addi c0_i32_535 v612
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_536 : BitVec 32 := 1#32
  let v614 : BitVec 32 := Scalar.muli v6 c1_i32_536
  let v615 : BitVec 32 := Scalar.addi v613 v614
  v615.toNat
def k0_dev26 (d0 : Dev nD) : Nat :=
  let c0_i32_567 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_566 : BitVec 32 := 2#32
  let v647 : BitVec 32 := Scalar.muli v7 c2_i32_566
  let v648 : BitVec 32 := Scalar.addi c0_i32_567 v647
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_568 : BitVec 32 := 1#32
  let v649 : BitVec 32 := Scalar.muli v5 c1_i32_568
  let v650 : BitVec 32 := Scalar.addi v648 v649
  v650.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x1024x1024 : Shape := ⟨4, ![2, 2, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2x1024x1024, .f32⟩
  | .hbm, ⟨1, _⟩ => ⟨S_, .f32⟩
  | .hbm, ⟨2, _⟩ => ⟨S1024x1024, .f32⟩
  | _, _ => ⟨S2x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Text.lean ====
/- The kernel function once more, as loops over (chunk, half): the text the proof runs. -/
module

public import proofs.«01_k».proof.Proof.Gen.KernelIdeal.Frame
public import proofs.«01_k».proof.Proof.Gen.KernelIdeal.Skeleton

@[expose] public section

noncomputable section

namespace Cert.KernelIdeal.AR

open Idealize.ShloMosaic Idealize.SL.Sem Cert.KernelIdeal.Gen

variable {F : FTy → Type} [FloatOps F]

/-- One step of a loop: the chunk and the half (`false` the upper rows, `true` the lower). -/
abbrev Item := Fin 4 × Bool

/-- The loops' order: chunks outside, halves inside. -/
def items : List Item :=
  [(0, false), (0, true), (1, false), (1, true), (2, false), (2, true), (3, false), (3, true)]

/-- The programs of the kernel function. -/
abbrev P (F : FTy → Type) (α : Type) := Prog (TpuEff nD τ sig (Elt F) Λ₀ .tc) α

/-- `f` at every item of the list, in order. -/
def each (l : List Item) (f : Item → P F PUnit) : P F PUnit :=
  match l with
  | [] => pure ⟨⟩
  | a :: l => f a >>= fun _ => each l f

/-- The neighbour of half `h`: along the second mesh axis for the upper half, along the first for
    the lower. -/
def devNat (h : Bool) (d : Dev nD) : Nat := match h with
  | false => k0_dev1 d
  | true => k0_dev2 d

theorem devNat_lt (h : Bool) (d : Dev nD) : devNat h d < nD := match h with
  | false => k0_dev1_lt d
  | true => k0_dev2_lt d

def nb (h : Bool) (d : Dev nD) : Dev nD := ⟨devNat h d, devNat_lt h d⟩

/-- Where chunk `k` of the quarter a device gives away starts. -/
def othOff (d : Dev nD) (a : Item) : Fin 2 → Nat := match a with
  | (k, false) => k0_off1 d (BitVec.ofNat 32 (64 * k.val))
  | (k, true) => k0_off2 d (BitVec.ofNat 32 (64 * k.val))

theorem othOff_inb (d : Dev nD) (a : Item) : ∀ i, othOff d a i + S64x1024.size i ≤ S1024x1024.size i :=
  match a with
  | (k, false) => k0_off1_inb d k
  | (k, true) => k0_off2_inb d k

/-- Where chunk `k` of the quarter a device sums starts. -/
def ownOff (d : Dev nD) (a : Item) : Fin 2 → Nat := match a with
  | (k, false) => k0_off4 d (BitVec.ofNat 32 (64 * k.val))
  | (k, true) => k0_off6 d (BitVec.ofNat 32 (64 * k.val))

theorem ownOff_inb (d : Dev nD) (a : Item) : ∀ i, ownOff d a i + S64x1024.size i ≤ S1024x1024.size i :=
  match a with
  | (k, false) => k0_off4_inb d k
  | (k, true) => k0_off6_inb d k

/-- The slab of the communication buffer the first (`p = 0`) and second (`p = 1`) exchange use. -/
def slab (p : Fin 2) (a : Item) : Fin 4 := ⟨p.val * 2 + a.2.toNat, by
  have := p.isLt; have := a.2.toNat_lt; omega⟩

/-- The place of a transfer's semaphores in their arrays. -/
def slot (p : Fin 3) (a : Item) : Fin 24 := ⟨(p.val * 2 + a.2.toNat) * 4 + a.1.val, by
  have := p.isLt; have := a.2.toNat_lt; have := a.1.isLt; omega⟩

theorem slab_inb (b : Fin 4) : ∀ i, (![b.val, 0, 0] : Fin 3 → Nat) i + S1x256x1024.size i ≤ S4x256x1024.size i := by
  revert b; decide

theorem chunk_inb (k : Fin 4) : ∀ i, (![64 * k.val, 0] : Fin 2 → Nat) i + S64x1024.size i ≤ S256x1024.size i := by
  revert k; decide

theorem slabChunk_inb (b k : Fin 4) :
    ∀ i, (![b.val, 64 * k.val, 0] : Fin 3 → Nat) i + S1x64x1024.size i ≤ S4x256x1024.size i := by
  revert b k; decide

theorem slot_inb (j : Fin 24) : ∀ i, (![j.val] : Fin 1 → Nat) i + S1.size i ≤ S24.size i := by
  revert j; decide

section text

variable (x o : Memref sig .tc .vmem S1024x1024 .f32) (c : Memref sig .tc .vmem S4x256x1024 .f32)
  (s r : DmaSems sig S24)

/-- A chunk given away, of the argument. -/
abbrev xChunk (x : Memref sig .tc .vmem S1024x1024 .f32) (d : Dev nD) (a : Item) :
    Memref sig .tc .vmem S64x1024 .f32 :=
  x.slice (Rect.unit (s := S1024x1024) (othOff d a) S64x1024.size (othOff_inb d a)) (fun _ => rfl)

/-- A chunk summed, of the result. -/
abbrev oChunk (o : Memref sig .tc .vmem S1024x1024 .f32) (d : Dev nD) (a : Item) :
    Memref sig .tc .vmem S64x1024 .f32 :=
  o.slice (Rect.unit (s := S1024x1024) (ownOff d a) S64x1024.size (ownOff_inb d a)) (fun _ => rfl)

/-- A chunk received into the communication buffer. -/
abbrev cChunk (c : Memref sig .tc .vmem S4x256x1024 .f32) (b k : Fin 4) :
    Memref sig .tc .vmem S64x1024 .f32 :=
  ((c.slice (Rect.unit (s := S4x256x1024) ![b.val, 0, 0] S1x256x1024.size (slab_inb b)) (fun _ => rfl)).squeeze
    S256x1024 squeezes_S1x256x1024_S256x1024).slice
      (Rect.unit (s := S256x1024) ![64 * k.val, 0] S64x1024.size (chunk_inb k)) (fun _ => rfl)

/-- One semaphore of an array. -/
abbrev semAt (s : DmaSems sig S24) (j : Fin 24) : DmaSem sig :=
  ((s.slice (Rect.unit (s := S24) ![j.val] S1.size (slot_inb j))).squeeze S_ squeezes_S1_S_).sem

/-- The source of a transfer. -/
abbrev from_ (p : Fin 3) (d : Dev nD) (a : Item) : Memref sig .tc .vmem S64x1024 .f32 :=
  match p with | 0 => xChunk x d a | 1 => oChunk o d a | 2 => oChunk o d a

/-- The destination of a transfer. -/
abbrev to_ (p : Fin 3) (d : Dev nD) (a : Item) : Memref sig .tc .vmem S64x1024 .f32 :=
  match p with | 0 => cChunk c (slab 0 a) a.1 | 1 => cChunk c (slab 1 a) a.1 | 2 => oChunk o d a

/-- The device a transfer goes to. -/
def tgt (p : Fin 3) (d : Dev nD) (a : Item) : Dev nD :=
  match p with | 0 => nb a.2 d | 1 => nb (!a.2) d | 2 => nb a.2 d

def start (p : Fin 3) (d : Dev nD) (a : Item) : P F PUnit :=
  Prog.lift (.enqueueDma (from_ x o p d a)
    (.remote (Dev.tc (tgt p d a)) (to_ o c p d a) (.dma (semAt s (slot p a)))) (.dma (semAt r (slot p a)))
    (View.wordExact_bits rfl) (View.wordExact_bits rfl) ⟨⟨rfl, Or.inl rfl⟩, trivial⟩)

def waitR (p : Fin 3) (d : Dev nD) (a : Item) : P F PUnit :=
  Prog.lift (.waitDma2 (semAt r (slot p a)) (from_ x o p d a) (to_ o c p d a)
    (View.wordExact_bits rfl) (View.wordExact_bits rfl))

def waitS (p : Fin 3) (d : Dev nD) (a : Item) : P F PUnit :=
  Prog.lift (.waitDma2 (semAt s (slot p a)) (to_ o c p d a) (from_ x o p d a)
    (View.wordExact_bits rfl) (View.wordExact_bits rfl))

/-- The sum of a chunk and the chunk received for it. -/
abbrev sum_ (v : Vec F S64x1024 .f32) (w : Vec F S1x64x1024 .f32) : FVec F S64x1024 .f32 :=
  k0_pay1 v w

/-- A chunk of `y` plus the chunk received into slab `b`, to the result. -/
def addTo (y o : Memref sig .tc .vmem S1024x1024 .f32) (c : Memref sig .tc .vmem S4x256x1024 .f32)
    (b : Fin 4) (d : Dev nD) (a : Item) : P F PUnit := do
  let v : Vec F S64x1024 .f32 ← Prog.lift (.load y
    (Rect.unit (s := S1024x1024) (ownOff d a) S64x1024.size (ownOff_inb d a)).toLoadRect
    (View.loadsAt_vmem h_S64x1024))
  let w : Vec F S1x64x1024 .f32 ← Prog.lift (.load c
    (Rect.unit (s := S4x256x1024) ![b.val, 64 * a.1.val, 0] S1x64x1024.size (slabChunk_inb b a.1)).toLoadRect
    (View.loadsAt_vmem h_S1x64x1024))
  let _u : Vec F S64x1024 .f32 ← Prog.lift (.load o
    (Rect.unit (s := S1024x1024) (ownOff d a) S64x1024.size (ownOff_inb d a)).toLoadRect
    (View.loadsAt_vmem h_S64x1024))
  Prog.lift (.store o (Rect.unit (s := S1024x1024) (ownOff d a) S64x1024.size (ownOff_inb d a))
    (sum_ v w) Finset.univ (View.stores_vmem_bits_univ h_S64x1024 rfl) (.inl rfl))

/-- What follows the barrier. -/
def loops (d : Dev nD) : P F PUnit := do
  each items (fun a => start x o c s r 0 d a)
  each items (fun a => do
    waitR x o c r 0 d a
    addTo x o c (slab 0 a) d a
    start x o c s r 1 d a)
  each items (fun a => do
    waitR x o c r 1 d a
    waitS x o c s 1 d a
    addTo o o c (slab 1 a) d a
    start x o c s r 2 d a)
  each items (fun a => waitR x o c r 2 d a)
  each items (fun a => do
    waitS x o c s 0 d a
    waitS x o c s 2 d a)

/-- The runtime's barrier semaphore. -/
abbrev barSem : Sem sig := (SemArray.scalar (sig.barrier 0 rfl) : Sems sig S_).sem

/-- The whole function. -/
def text : P F PUnit := do
  let d : Dev nD ← Prog.lift .deviceId
  semSignalWord (nb false d) barSem 1#32
  semSignalWord (nb true d) barSem 1#32
  semWaitWord barSem 2#32
  loops x o c s r d

end text

set_option maxRecDepth 65536 in
set_option maxHeartbeats 4000000 in
/-- The kernel function is this text. -/
theorem body_eq (x : Memref sig .tc .vmem S1024x1024 .f32) (hx : x.IsWhole)
    (o : Memref sig .tc .vmem S1024x1024 .f32) (ho : o.IsWhole)
    (c : Memref sig .tc .vmem S4x256x1024 .f32) (hc : c.IsWhole) (s r : DmaSems sig S24) :
    cc0_body (F := F) x hx o ho c hc s r = text x o c s r := by
  rw [cc0_body_eq_skeleton]
  rfl

end Cert.KernelIdeal.AR
-- ==== Proof.Views.lean ====
/- The four devices' neighbours, the row sets the kernel's chunks cover, and what the chunks hold. -/
module

public import proofs.«01_k».proof.Proof.Text

@[expose] public section

noncomputable section

namespace Cert.KernelIdeal.AR

open Idealize.ShloMosaic Idealize.SL.Sem Cert.KernelIdeal.Gen

/-! ## Neighbours -/

theorem nb_nb : ∀ (h : Bool) (d : Dev nD), nb h (nb h d) = d := by decide +kernel
theorem nb_comm : ∀ (h h' : Bool) (d : Dev nD), nb h (nb h' d) = nb h' (nb h d) := by decide +kernel
theorem nb_inj : ∀ (h h' : Bool) (d : Dev nD), nb h d = nb h' d → h = h' := by decide +kernel

/-- The direction a transfer goes. -/
def dir (p : Fin 3) (h : Bool) : Bool := match p with | 0 => h | 1 => !h | 2 => h

theorem dir_dir : ∀ (p : Fin 3) (h : Bool), dir p (dir p h) = h := by decide

theorem tgt_eq (p : Fin 3) (d : Dev nD) (a : Item) : tgt p d a = nb (dir p a.2) d := by
  match p with | 0 => rfl | 1 => rfl | 2 => rfl

theorem tgt_tgt (p : Fin 3) (d : Dev nD) (a : Item) : tgt p (tgt p d a) a = d := by
  rw [tgt_eq, tgt_eq, nb_nb]

/-! ## Rows -/

/-- The first row of the quarter of half `h` that device `d` sums. -/
def ownB (h : Bool) (d : Dev nD) : Nat := match h with
  | false => 256 * (d.val % 2)
  | true => 512 + 256 * (d.val / 2)

theorem ownB_le : ∀ (h : Bool) (d : Dev nD), ownB h d + 256 ≤ 1024 := by decide +kernel

/-- Along the other direction the two devices sum the same quarter. -/
theorem ownB_not : ∀ (h : Bool) (d : Dev nD), ownB h (nb (!h) d) = ownB h d := by decide +kernel

theorem ownOff_eq : ∀ (d : Dev nD) (a : Item), ownOff d a = ![ownB a.2 d + 64 * a.1.val, 0] := by decide +kernel
theorem othOff_eq : ∀ (d : Dev nD) (a : Item), othOff d a = ![ownB a.2 (nb a.2 d) + 64 * a.1.val, 0] := by
  decide +kernel

/-- The quarter of half `h`: the device's own, or (`s`) its neighbour's. -/
def quarter (s : Bool) (h : Bool) (d : Dev nD) : Nat := match s with
  | false => ownB h d
  | true => ownB h (nb h d)

/-- The 64 rows from `r`. -/
def rows (r : Nat) : Finset S1024x1024.Idx := Finset.univ.filter fun i => r ≤ (i 0).val ∧ (i 0).val < r + 64

theorem mem_rows {r : Nat} {i : S1024x1024.Idx} : i ∈ rows r ↔ r ≤ (i 0).val ∧ (i 0).val < r + 64 := by
  simp [rows]

/-- The 64 rows of chunk `k` of slab `b`. -/
def slabRows (b k : Fin 4) : Finset S4x256x1024.Idx :=
  Finset.univ.filter fun i => (i 0).val = b.val ∧ 64 * k.val ≤ (i 1).val ∧ (i 1).val < 64 * k.val + 64

theorem mem_slabRows {b k : Fin 4} {i : S4x256x1024.Idx} :
    i ∈ slabRows b k ↔ (i 0).val = b.val ∧ 64 * k.val ≤ (i 1).val ∧ (i 1).val < 64 * k.val + 64 := by
  simp [slabRows]

/-- The rows of the sixteen chunks of a whole array. -/
def part (d : Dev nD) (q : Bool × Item) : Finset S1024x1024.Idx := rows (quarter q.1 q.2.2 d + 64 * q.2.1.val)

theorem quarter_table : ∀ (d : Dev nD) (s h : Bool), quarter s h d =
    (bif h then 512 else 0) + 256 * ((bif s then 1 + (bif h then d.val / 2 else d.val % 2) else
      (bif h then d.val / 2 else d.val % 2)) % 2) := by decide +kernel

theorem quarter_cover : ∀ (d : Dev nD) (n : Fin 4), ∃ (s h : Bool), quarter s h d = 256 * n.val := by decide +kernel
theorem quarter_inj : ∀ (d : Dev nD) (s h s' h' : Bool), quarter s h d / 256 = quarter s' h' d / 256 → s = s' ∧ h = h' := by
  decide +kernel
theorem quarter_mul : ∀ (d : Dev nD) (s h : Bool), quarter s h d = 256 * (quarter s h d / 256) := by decide +kernel

theorem part_disjoint (d : Dev nD) (q q' : Bool × Item) (h : q ≠ q') : Disjoint (part d q) (part d q') := by
  obtain ⟨s, k, b⟩ := q
  obtain ⟨s', k', b'⟩ := q'
  rw [Finset.disjoint_left]
  intro i h1 h2
  have h1 := mem_rows.mp h1
  have h2 := mem_rows.mp h2
  dsimp only at h1 h2
  have e1 := quarter_mul d s b
  have e2 := quarter_mul d s' b'
  have hk := k.isLt
  have hk' := k'.isLt
  obtain ⟨rfl, rfl⟩ := quarter_inj d s b s' b' (by omega)
  exact h (by rw [show k = k' from Fin.ext (by omega)])

theorem part_cover (d : Dev nD) : (Finset.univ : Finset (Bool × Item)).biUnion (part d) = Finset.univ := by
  refine Finset.eq_univ_of_forall fun i => Finset.mem_biUnion.mpr ?_
  have hi : (i 0).val < 1024 := (i 0).isLt
  obtain ⟨s, h, e⟩ := quarter_cover d ⟨(i 0).val / 256, by omega⟩
  refine ⟨(s, ⟨(i 0).val % 256 / 64, by omega⟩, h), Finset.mem_univ _, mem_rows.mpr ?_⟩
  dsimp only at e ⊢
  rw [e]
  omega

theorem slabRows_disjoint (q q' : Fin 4 × Fin 4) (h : q ≠ q') :
    Disjoint (slabRows q.1 q.2) (slabRows q'.1 q'.2) := by
  rw [Finset.disjoint_left]
  intro i h1 h2
  have h1 := mem_slabRows.mp h1
  have h2 := mem_slabRows.mp h2
  exact h (Prod.ext (Fin.ext (by omega)) (Fin.ext (by omega)))

theorem slabRows_cover : (Finset.univ : Finset (Fin 4 × Fin 4)).biUnion (fun q => slabRows q.1 q.2) = Finset.univ := by
  refine Finset.eq_univ_of_forall fun i => Finset.mem_biUnion.mpr ?_
  have h0 : (i 0).val < 4 := (i 0).isLt
  have h1 : (i 1).val < 256 := (i 1).isLt
  refine ⟨(⟨(i 0).val, h0⟩, ⟨(i 1).val / 64, by omega⟩), Finset.mem_univ _, mem_slabRows.mpr ?_⟩
  dsimp only
  omega

/-! ## The chunks' places -/

/-- The three buffers, whole. -/
abbrev xM : Memref sig .tc .vmem S1024x1024 .f32 := Memref.whole cc0_stg0_0
abbrev oM : Memref sig .tc .vmem S1024x1024 .f32 := Memref.whole cc0_stg1_0
abbrev cM : Memref sig .tc .vmem S4x256x1024 .f32 := Memref.whole cc0_scratch0

/-- Row `r` shifted onto a chunk's index. -/
def at2 (r : Nat) (h : r + 64 ≤ 1024) (y : S64x1024.Idx) : S1024x1024.Idx :=
  Fin.cons (⟨r + (y 0).val, by have : (y 0).val < 64 := (y 0).isLt; show _ < 1024; omega⟩ : Fin 1024)
    (Fin.cons (⟨(y 1).val, (y 1).isLt⟩ : Fin 1024) finZeroElim)

theorem idx2_ext {i j : S1024x1024.Idx} (h0 : (i 0).val = (j 0).val) (h1 : (i 1).val = (j 1).val) : i = j :=
  funext (Fin.forall_fin_two.mpr ⟨Fin.ext h0, Fin.ext h1⟩)

theorem idx3_ext {i j : S4x256x1024.Idx} (h0 : (i 0).val = (j 0).val) (h1 : (i 1).val = (j 1).val)
    (h2 : (i 2).val = (j 2).val) : i = j :=
  funext fun a => Fin.ext (match a with | 0 => h0 | 1 => h1 | 2 => h2)

theorem rowRect_emb {off : Fin 2 → Nat} {r : Nat} (inb) (h : off = ![r, 0]) (hr : r + 64 ≤ 1024) (y : S64x1024.Idx) :
    (Rect.unit (s := S1024x1024) off S64x1024.size inb).emb y = at2 r hr y := by
  subst h
  refine idx2_ext ?_ ?_
  · show r + 1 * (y 0).val = r + (y 0).val; omega
  · show 0 + 1 * (y 1).val = (y 1).val; omega

theorem rowRect_set {off : Fin 2 → Nat} {r : Nat} (inb) (h : off = ![r, 0]) :
    (Rect.unit (s := S1024x1024) off S64x1024.size inb).set = rows r := by
  subst h
  ext i
  rw [Rect.mem_set_unit, mem_rows]
  constructor
  · intro hi; exact hi 0
  · intro hi
    refine Fin.forall_fin_two.mpr ⟨hi, ?_⟩
    have : (i 1).val < 1024 := (i 1).isLt
    show 0 ≤ (i 1).val ∧ (i 1).val < 0 + 1024
    omega

theorem xChunk_set (d : Dev nD) (a : Item) : (xChunk xM d a).view.set = part d (true, a) := by
  show ((View.whole cc0_stg0_0).slice _).set = _
  rw [View.set_slice_whole]
  exact rowRect_set _ (othOff_eq d a)

theorem oChunk_set (d : Dev nD) (a : Item) : (oChunk oM d a).view.set = part d (false, a) := by
  show ((View.whole cc0_stg1_0).slice _).set = _
  rw [View.set_slice_whole]
  exact rowRect_set _ (ownOff_eq d a)

theorem own_le (d : Dev nD) (a : Item) : ownB a.2 d + 64 * a.1.val + 64 ≤ 1024 := by
  have := ownB_le a.2 d; have := a.1.isLt; omega

/-- The place of chunk index `y` of the quarter of half `a.2` that `d` sums. -/
def place (d : Dev nD) (a : Item) (y : S64x1024.Idx) : S1024x1024.Idx :=
  at2 (ownB a.2 d + 64 * a.1.val) (own_le d a) y

theorem xChunk_emb (d : Dev nD) (a : Item) (y : S64x1024.Idx) : (xChunk xM d a).view.emb y = place (nb a.2 d) a y :=
  rowRect_emb _ (othOff_eq d a) _ y

theorem oChunk_emb (d : Dev nD) (a : Item) (y : S64x1024.Idx) : (oChunk oM d a).view.emb y = place d a y :=
  rowRect_emb _ (ownOff_eq d a) _ y

/-- The place of chunk index `y` in the communication buffer. -/
def cplace (b k : Fin 4) (y : S64x1024.Idx) : S4x256x1024.Idx :=
  Fin.cons (b : Fin 4) (Fin.cons (⟨64 * k.val + (y 0).val, by
    have : (y 0).val < 64 := (y 0).isLt; have := k.isLt; show _ < 256; omega⟩ : Fin 256)
    (Fin.cons (⟨(y 1).val, (y 1).isLt⟩ : Fin 1024) finZeroElim))

theorem cChunk_emb (b k : Fin 4) (y : S64x1024.Idx) : (cChunk cM b k).view.emb y = cplace b k y := by
  show (Rect.unit (s := S4x256x1024) ![b.val, 0, 0] S1x256x1024.size (slab_inb b)).emb
    (Shape.reshapeEquiv _ ((Rect.unit (s := S256x1024) ![64 * k.val, 0] S64x1024.size (chunk_inb k)).emb y)) = _
  have e := Shape.reshapeEquiv_cons_one (d := ![256, 1024]) (squeezes_S1x256x1024_S256x1024).numel_eq
    ((Rect.unit (s := S256x1024) ![64 * k.val, 0] S64x1024.size (chunk_inb k)).emb y)
  refine (congrArg _ e).trans (idx3_ext ?_ ?_ ?_)
  · show b.val + 1 * 0 = b.val; omega
  · show 0 + 1 * (64 * k.val + 1 * (y 0).val) = 64 * k.val + (y 0).val; omega
  · show 0 + 1 * (0 + 1 * (y 1).val) = (y 1).val; omega

theorem cplace_mem (b k : Fin 4) (y : S64x1024.Idx) : cplace b k y ∈ slabRows b k := by
  have : (y 0).val < 64 := (y 0).isLt
  refine mem_slabRows.mpr ⟨rfl, ?_⟩
  show 64 * k.val ≤ 64 * k.val + (y 0).val ∧ 64 * k.val + (y 0).val < 64 * k.val + 64
  omega

theorem cplace_of_mem {b k : Fin 4} {i : S4x256x1024.Idx} (h : i ∈ slabRows b k) : ∃ y, i = cplace b k y := by
  obtain ⟨h0, h1, h2⟩ := mem_slabRows.mp h
  refine ⟨Fin.cons (⟨(i 1).val - 64 * k.val, by omega⟩ : Fin 64) (Fin.cons (⟨(i 2).val, (i 2).isLt⟩ : Fin 1024) finZeroElim),
    idx3_ext h0 ?_ rfl⟩
  show (i 1).val = 64 * k.val + ((i 1).val - 64 * k.val)
  omega

theorem place_mem (d : Dev nD) (a : Item) (y : S64x1024.Idx) : place d a y ∈ part d (false, a) := by
  have : (y 0).val < 64 := (y 0).isLt
  refine mem_rows.mpr ?_
  show ownB a.2 d + 64 * a.1.val ≤ ownB a.2 d + 64 * a.1.val + (y 0).val
    ∧ ownB a.2 d + 64 * a.1.val + (y 0).val < ownB a.2 d + 64 * a.1.val + 64
  omega

theorem place_of_mem {d : Dev nD} {a : Item} {i : S1024x1024.Idx} (h : i ∈ part d (false, a)) : ∃ y, i = place d a y := by
  have h := mem_rows.mp h
  dsimp only [quarter] at h
  refine ⟨Fin.cons (⟨(i 0).val - (ownB a.2 d + 64 * a.1.val), by omega⟩ : Fin 64)
    (Fin.cons (⟨(i 1).val, (i 1).isLt⟩ : Fin 1024) finZeroElim), idx2_ext ?_ rfl⟩
  show (i 0).val = ownB a.2 d + 64 * a.1.val + ((i 0).val - (ownB a.2 d + 64 * a.1.val))
  omega

theorem cChunk_set (b k : Fin 4) : (cChunk cM b k).view.set = slabRows b k := by
  ext i
  constructor
  · intro h
    obtain ⟨y, -, rfl⟩ := Finset.mem_map.mp h
    rw [cChunk_emb]; exact cplace_mem b k y
  · intro h
    obtain ⟨y, rfl⟩ := cplace_of_mem h
    rw [← cChunk_emb]; exact View.emb_mem_set _ y

/-- A quarter is the neighbour's own. -/
theorem part_true (d : Dev nD) (a : Item) : part d (true, a) = part (nb a.2 d) (false, a) := rfl

theorem part_not (d : Dev nD) (a : Item) : part (nb (!a.2) d) (false, a) = part d (false, a) := by
  unfold part quarter; dsimp only; rw [ownB_not]

theorem place_not (d : Dev nD) (a : Item) (y : S64x1024.Idx) : place (nb (!a.2) d) a y = place d a y := by
  refine idx2_ext ?_ rfl
  show ownB a.2 (nb (!a.2) d) + 64 * a.1.val + (y 0).val = ownB a.2 d + 64 * a.1.val + (y 0).val
  rw [ownB_not]

/-! ## Contents -/

/-- The half a row lies in. -/
def half (i : S1024x1024.Idx) : Bool := decide (512 ≤ (i 0).val)

theorem ownB_half : ∀ (h : Bool) (d : Dev nD), decide (512 ≤ ownB h d) = h ∧ (h = false → ownB h d ≤ 256) := by
  decide +kernel

theorem half_of_mem {d : Dev nD} {q : Bool × Item} {i : S1024x1024.Idx} (h : i ∈ part d q) : half i = q.2.2 := by
  have h := mem_rows.mp h
  obtain ⟨s, k, b⟩ := q
  obtain ⟨d', hq⟩ : ∃ d', quarter s b d = ownB b d' := by cases s <;> exact ⟨_, rfl⟩
  have e := ownB_half b d'
  dsimp only at h ⊢
  rw [hq] at h
  have hk := k.isLt
  unfold half
  cases b
  · have := e.2 rfl
    exact decide_eq_false (by omega)
  · have := of_decide_eq_true e.1
    exact decide_eq_true (by omega)

variable {F : FTy → Type} [FloatOps F]

/-- An array of each device. -/
abbrev Arrs (F : FTy → Type) := Dev nD → S1024x1024.Idx → Elt F .f32

/-- After the first exchange: two devices' blocks. -/
def two (X : Arrs F) : Arrs F := fun d i => FloatOps.addf (X d i) (X (nb (half i) d) i)

/-- After the second: all four. -/
def four (X : Arrs F) : Arrs F := fun d i => FloatOps.addf (two X d i) (two X (nb (!half i) d) i)

/-- The result: the quarters a device sums, and the quarters its neighbours send. -/
def result (X : Arrs F) : Arrs F := fun d i =>
  if ownB (half i) d ≤ (i 0).val ∧ (i 0).val < ownB (half i) d + 256 then four X d i else four X (nb (half i) d) i

/-- The row of the result a place of the communication buffer is for. -/
def home (e : Dev nD) (i : S4x256x1024.Idx) : S1024x1024.Idx :=
  Fin.cons (⟨ownB (decide ((i 0).val % 2 = 1)) e + (i 1).val, by
    have h1 : (i 1).val < 256 := (i 1).isLt
    have := ownB_le (decide ((i 0).val % 2 = 1)) e
    show _ < 1024; omega⟩ : Fin 1024) (Fin.cons (⟨(i 2).val, (i 2).isLt⟩ : Fin 1024) finZeroElim)

/-- What the communication buffer holds once everything has landed. -/
def landed (X : Arrs F) (e : Dev nD) : S4x256x1024.Idx → Elt F .f32 := fun i =>
  if (i 0).val < 2 then X (nb (decide ((i 0).val % 2 = 1)) e) (home e i)
  else two X (nb (!decide ((i 0).val % 2 = 1)) e) (home e i)

theorem slab_bit : ∀ (p : Fin 2) (a : Item), decide ((slab p a).val % 2 = 1) = a.2 := by decide
theorem slab_lt : ∀ (p : Fin 2) (a : Item), (slab p a).val < 2 ↔ p = 0 := by decide

theorem home_cplace (e : Dev nD) (p : Fin 2) (a : Item) (y : S64x1024.Idx) :
    home e (cplace (slab p a) a.1 y) = place e a y := by
  refine idx2_ext ?_ rfl
  show ownB (decide ((slab p a).val % 2 = 1)) e + (64 * a.1.val + (y 0).val) = ownB a.2 e + 64 * a.1.val + (y 0).val
  rw [slab_bit]; omega

theorem landed_first (X : Arrs F) (e : Dev nD) (a : Item) (y : S64x1024.Idx) :
    landed X e (cplace (slab 0 a) a.1 y) = X (nb a.2 e) (place e a y) := by
  unfold landed
  rw [home_cplace]
  show (if (slab 0 a).val < 2 then X (nb (decide ((slab 0 a).val % 2 = 1)) e) _ else _) = _
  rw [if_pos ((slab_lt 0 a).mpr rfl), slab_bit]

theorem landed_second (X : Arrs F) (e : Dev nD) (a : Item) (y : S64x1024.Idx) :
    landed X e (cplace (slab 1 a) a.1 y) = two X (nb (!a.2) e) (place e a y) := by
  unfold landed
  rw [home_cplace]
  show (if (slab 1 a).val < 2 then _ else two X (nb (!decide ((slab 1 a).val % 2 = 1)) e) _) = _
  rw [if_neg (fun h => absurd ((slab_lt 1 a).mp h) (by decide)), slab_bit]

/-! ## What a transfer, a load and a store make of them -/

/-- The first exchange's chunk, landed. -/
theorem land_first (X : Arrs F) (d : Dev nD) (a : Item) (fd : cc0_scratch0.ty.Contents (Elt F)) :
    ∀ i ∈ slabRows (slab 0 a) a.1, (cChunk cM (slab 0 a) a.1).view.write (Elt F) fd
      ((xChunk xM d a).view.read (Elt F) (X d)) Finset.univ i = landed X (nb a.2 d) i := by
  intro i hi
  obtain ⟨y, rfl⟩ := cplace_of_mem hi
  rw [landed_first, nb_nb, ← cChunk_emb, View.write_emb_of_mem _ _ (Finset.mem_univ y), ← xChunk_emb]
  rfl

/-- The second's. -/
theorem land_second (X : Arrs F) (d : Dev nD) (a : Item) (fd : cc0_scratch0.ty.Contents (Elt F)) :
    ∀ i ∈ slabRows (slab 1 a) a.1, (cChunk cM (slab 1 a) a.1).view.write (Elt F) fd
      ((oChunk oM d a).view.read (Elt F) (two X d)) Finset.univ i = landed X (nb (!a.2) d) i := by
  intro i hi
  obtain ⟨y, rfl⟩ := cplace_of_mem hi
  rw [landed_second, nb_nb, place_not, ← cChunk_emb, View.write_emb_of_mem _ _ (Finset.mem_univ y), ← oChunk_emb]
  rfl

/-- The third's. -/
theorem land_third (X : Arrs F) (d : Dev nD) (a : Item) (fd : cc0_stg1_0.ty.Contents (Elt F)) :
    ∀ i ∈ part d (false, a), (oChunk oM d a).view.write (Elt F) fd
      ((oChunk oM d a).view.read (Elt F) (four X d)) Finset.univ i = four X d i := by
  intro i hi
  obtain ⟨y, rfl⟩ := place_of_mem hi
  rw [← oChunk_emb, View.write_emb_of_mem _ _ (Finset.mem_univ y)]
  rfl

/-- The rectangle a chunk of the result is loaded and stored by. -/
abbrev ownRect (d : Dev nD) (a : Item) : Rect S1024x1024 :=
  Rect.unit (s := S1024x1024) (ownOff d a) S64x1024.size (ownOff_inb d a)

/-- The rectangle a received chunk is loaded by. -/
abbrev slabRect (b k : Fin 4) : Rect S4x256x1024 :=
  Rect.unit (s := S4x256x1024) ![b.val, 64 * k.val, 0] S1x64x1024.size (slabChunk_inb b k)

theorem slabRect_idx (b k : Fin 4) (y : S64x1024.Idx) :
    (slabRect b k).emb (Fin.cons ⟨0, Nat.one_pos⟩ y : S1x64x1024.Idx) = cplace b k y := by
  refine idx3_ext ?_ ?_ ?_
  · show b.val + 1 * 0 = b.val; omega
  · show 64 * k.val + 1 * (y 0).val = 64 * k.val + (y 0).val; omega
  · show 0 + 1 * (y 1).val = (y 1).val; omega

theorem slabRect_set (b k : Fin 4) : (slabRect b k).set = slabRows b k := by
  ext i
  rw [Rect.mem_set_unit, mem_slabRows]
  constructor
  · intro hi
    have h0 : b.val ≤ (i 0).val ∧ (i 0).val < b.val + 1 := hi 0
    have h1 : 64 * k.val ≤ (i 1).val ∧ (i 1).val < 64 * k.val + 64 := hi 1
    omega
  · intro hi a
    have h2 : (i 2).val < 1024 := (i 2).isLt
    match a with
    | 0 => show b.val ≤ (i 0).val ∧ (i 0).val < b.val + 1; omega
    | 1 => show 64 * k.val ≤ (i 1).val ∧ (i 1).val < 64 * k.val + 64; omega
    | 2 => show 0 ≤ (i 2).val ∧ (i 2).val < 0 + 1024; omega

theorem sum_apply (v : Vec F S64x1024 .f32) (w : Vec F S1x64x1024 .f32) (y : S64x1024.Idx) :
    sum_ v w y = FloatOps.addf (v y) (w (Fin.cons ⟨0, Nat.one_pos⟩ y)) := by
  show FloatOps.addf (shapeCast S64x1024 v shapeCasts_S64x1024_S64x1024 y)
    (shapeCast S64x1024 w shapeCasts_S1x64x1024_S64x1024 y) = _
  congr 1
  · exact congrArg v (Shape.reshapeEquiv_self _ y)
  · exact congrArg w (Shape.reshapeEquiv_cons_one (d := ![64, 1024]) _ y)

/-- A chunk of the result, stored, -/
theorem own_store (d : Dev nD) (a : Item) (f : cc0_stg1_0.ty.Contents (Elt F)) (w : Vec F S64x1024 .f32) (y : S64x1024.Idx) :
    (oM.access (ownRect d a)).write (Elt F) f w Finset.univ (place d a y) = w y := by
  have hw := View.write_emb_of_mem (Val := Elt F) (v := oM.access (ownRect d a)) f w (Finset.mem_univ y)
  have he : (oM.access (ownRect d a)).emb y = place d a y := oChunk_emb d a y
  exact (congrArg _ he.symm).trans hw

/-- loaded from either array, -/
theorem own_load_x (d : Dev nD) (a : Item) (f : cc0_stg0_0.ty.Contents (Elt F)) (y : S64x1024.Idx) :
    xM.view.readAt (Elt F) (ownRect d a).toLoadRect f y = f (place d a y) :=
  congrArg f (oChunk_emb d a y)
theorem own_load_o (d : Dev nD) (a : Item) (f : cc0_stg1_0.ty.Contents (Elt F)) (y : S64x1024.Idx) :
    oM.view.readAt (Elt F) (ownRect d a).toLoadRect f y = f (place d a y) :=
  congrArg f (oChunk_emb d a y)

/-- and a received chunk, loaded. -/
theorem slab_load (b k : Fin 4) (f : cc0_scratch0.ty.Contents (Elt F)) (y : S64x1024.Idx) :
    cM.view.readAt (Elt F) (slabRect b k).toLoadRect f (Fin.cons ⟨0, Nat.one_pos⟩ y : S1x64x1024.Idx) = f (cplace b k y) :=
  congrArg f (slabRect_idx b k y)

/-- The first sum. -/
theorem store_first (X : Arrs F) (d : Dev nD) (a : Item) (f : cc0_stg1_0.ty.Contents (Elt F))
    (v : Vec F S64x1024 .f32) (hv : v = xM.view.readAt (Elt F) (ownRect d a).toLoadRect (X d))
    (w : Vec F S1x64x1024 .f32) (hw : w = cM.view.readAt (Elt F) (slabRect (slab 0 a) a.1).toLoadRect (landed X d)) :
    ∀ i ∈ part d (false, a), (oM.access (ownRect d a)).write (Elt F) f (sum_ v w) Finset.univ i = two X d i := by
  intro i hi
  have hh := half_of_mem hi
  obtain ⟨y, rfl⟩ := place_of_mem hi
  rw [own_store, sum_apply]
  have h1 : v y = X d (place d a y) := (congrFun hv y).trans (own_load_x d a _ y)
  have h2 : w (Fin.cons ⟨0, Nat.one_pos⟩ y) = X (nb a.2 d) (place d a y) :=
    (congrFun hw _).trans ((slab_load _ _ _ y).trans (landed_first X d a y))
  rw [h1, h2]
  unfold two
  rw [hh]

/-- The second sum. -/
theorem store_second (X : Arrs F) (d : Dev nD) (a : Item) (f : cc0_stg1_0.ty.Contents (Elt F))
    (v : Vec F S64x1024 .f32) (hv : v = oM.view.readAt (Elt F) (ownRect d a).toLoadRect (two X d))
    (w : Vec F S1x64x1024 .f32) (hw : w = cM.view.readAt (Elt F) (slabRect (slab 1 a) a.1).toLoadRect (landed X d)) :
    ∀ i ∈ part d (false, a), (oM.access (ownRect d a)).write (Elt F) f (sum_ v w) Finset.univ i = four X d i := by
  intro i hi
  have hh := half_of_mem hi
  obtain ⟨y, rfl⟩ := place_of_mem hi
  rw [own_store, sum_apply]
  have h1 : v y = two X d (place d a y) := (congrFun hv y).trans (own_load_o d a _ y)
  have h2 : w (Fin.cons ⟨0, Nat.one_pos⟩ y) = two X (nb (!a.2) d) (place d a y) :=
    (congrFun hw _).trans ((slab_load _ _ _ y).trans (landed_second X d a y))
  rw [h1, h2]
  unfold four
  rw [hh]

/-- The result on a quarter the device sums, -/
theorem result_own (X : Arrs F) (d : Dev nD) (a : Item) : ∀ i ∈ part d (false, a), result X d i = four X d i := by
  intro i hi
  have hh := half_of_mem hi
  have h := mem_rows.mp hi
  have hk := a.1.isLt
  dsimp only [quarter] at h hh
  unfold result
  rw [hh, if_pos (by omega)]

/-- and on one a neighbour sends. -/
theorem result_oth (X : Arrs F) (d : Dev nD) (a : Item) :
    ∀ i ∈ part d (true, a), result X d i = four X (nb a.2 d) i := by
  intro i hi
  have hh := half_of_mem hi
  have h := mem_rows.mp hi
  have hk := a.1.isLt
  have e1 := quarter_mul d true a.2
  have e2 := quarter_mul d false a.2
  have hne : quarter true a.2 d / 256 ≠ quarter false a.2 d / 256 := fun e =>
    absurd (quarter_inj d true a.2 false a.2 e).1 (by decide)
  dsimp only at h hh
  unfold result
  rw [hh, if_neg]
  show ¬ (quarter false a.2 d ≤ (i 0).val ∧ (i 0).val < quarter false a.2 d + 256)
  omega

end Cert.KernelIdeal.AR
-- ==== Proof.Schedule.lean ====
/- The protocol: the cells, their duties and amounts, what each payment hands over, what a device owes and when. -/
module

public import proofs.«01_k».proof.Proof.Views
public import Idealize.ShloMosaic.Lib.Pipeline.Regions
public import Idealize.ShloMosaic.Lib.Pipeline.Kit
public import Idealize.ShloMosaic.Lib.Pipeline.RegionTalk
public import Idealize.ShloMosaic.Lib.Pipeline.BigSepL
public import Idealize.ShloMosaic.Lib.Rounds
public import Idealize.ShloMosaic.Lib.Tactic

@[expose] public section

noncomputable section

namespace Cert.KernelIdeal.AR

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Semaphores -/

/-- A transfer's semaphore: whether the receiver's, the exchange, the item. -/
abbrev Key := Bool × Fin 3 × Item

def semOf (k : Key) : DmaSem sig := ⟨(bif k.1 then 26 else 2) + (slot k.2.1 k.2.2).val, by
  have := (slot k.2.1 k.2.2).isLt
  show _ < 50
  cases k.1 <;> simp only [cond_true, cond_false] <;> omega⟩

/-- The transfer a semaphore belongs to; the two the staging uses belong to none. -/
def dec (j : DmaSem sig) : Option Key :=
  if j.val < 2 then none else
    let s := j.val - (bif decide (26 ≤ j.val) then 26 else 2)
    some (decide (26 ≤ j.val), Fin.ofNat 3 (s / 8), Fin.ofNat 4 (s % 4), decide (s / 4 % 2 = 1))

theorem dec_semOf : ∀ k : Key, dec (semOf k) = some k := by decide +kernel
theorem semOf_inj : Function.Injective semOf := fun k k' h =>
  Option.some.inj (by rw [← dec_semOf k, ← dec_semOf k', h])

theorem send_sem : ∀ (p : Fin 3) (a : Item), semAt cc0_scratch1 (slot p a) = semOf (false, p, a) := by decide +kernel
theorem recv_sem : ∀ (p : Fin 3) (a : Item), semAt cc0_scratch2 (slot p a) = semOf (true, p, a) := by decide +kernel

/-! ## The resource algebra -/

/-- The staging's copy, and the protocol's: a cell's duties are named by the two directions. -/
abbrev UU : Type := UR sig nD τ × URounds (GSem nD τ sig) Bool

variable {F : FTy → Type}

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-- The barrier's cell, and a transfer's. -/
abbrev bar (c : Dev nD) : GSem nD τ sig := ((c : Thread nD τ), .reg barSem)
abbrev cell (c : Dev nD) (k : Key) : GSem nD τ sig := ((c : Thread nD τ), .dma (semOf k))
abbrev snd (p : Fin 3) (c : Dev nD) (a : Item) : GSem nD τ sig := cell c (false, p, a)
abbrev rcv (p : Fin 3) (c : Dev nD) (a : Item) : GSem nD τ sig := cell c (true, p, a)

/-- What one transfer pays. -/
abbrev N : ℕ := (cChunk cM 0 0).view.dmaCredit
theorem N_pos : 0 < N := View.dmaCredit_pos _ (by decide)

/-! ## Parts of the buffers -/

abbrev ptX (c : Dev nD) (S : Finset S1024x1024.Idx) (f : cc0_stg0_0.ty.Contents (Elt F)) : sProp 𝕄 :=
  (c : Thread nD τ).loc cc0_stg0_0 ↦[S]{fullShare} f
abbrev ptO (c : Dev nD) (S : Finset S1024x1024.Idx) (f : cc0_stg1_0.ty.Contents (Elt F)) : sProp 𝕄 :=
  (c : Thread nD τ).loc cc0_stg1_0 ↦[S]{fullShare} f
abbrev ptC (c : Dev nD) (S : Finset S4x256x1024.Idx) (f : cc0_scratch0.ty.Contents (Elt F)) : sProp 𝕄 :=
  (c : Thread nD τ).loc cc0_scratch0 ↦[S]{fullShare} f

/-- The place on `e` where item `a` of exchange `p` lands, with something there. -/
def room (p : Fin 3) (e : Dev nD) (a : Item) : sProp 𝕄 := match p with
  | 0 => iprop(∃ f, ptC e (slabRows (slab 0 a) a.1) f)
  | 1 => iprop(∃ f, ptC e (slabRows (slab 1 a) a.1) f)
  | 2 => iprop(∃ f, ptO e (part e (true, a)) f)

/-- What a receiver lets device `c` have for one transfer: the place, and that its cell is open. -/
def grant (p : Fin 3) (c : Dev nD) (a : Item) : sProp 𝕄 :=
  iprop(room p (tgt p c a) a ∗ reached ER (rcv p (tgt p c a) a) 0)

/-- The barrier's payment to `c` from direction `h`: every place there that `c` will send to. -/
def barPay (c : Dev nD) (h : Bool) : sProp 𝕄 :=
  bigSep Finset.univ fun q : Fin 3 × Fin 4 => grant q.1 c (q.2, dir q.1 h)

variable [FloatOps F] (X : Arrs F)

/-- What the sender gets back: the chunk sent. -/
def sendPay (p : Fin 3) (c : Dev nD) (a : Item) : sProp 𝕄 := match p with
  | 0 => ptX c (part c (true, a)) (X c)
  | 1 => ptO c (part c (false, a)) (two X c)
  | 2 => ptO c (part c (false, a)) (four X c)

/-- What the receiver gets: the chunk landed. -/
def recvPay (p : Fin 3) (e : Dev nD) (a : Item) : sProp 𝕄 := match p with
  | 0 => ptC e (slabRows (slab 0 a) a.1) (landed X e)
  | 1 => ptC e (slabRows (slab 1 a) a.1) (landed X e)
  | 2 => ptO e (part e (true, a)) (result X e)

def keyPay (c : Dev nD) (k : Key) : sProp 𝕄 := match k with
  | (false, p, a) => sendPay X p c a
  | (true, p, a) => recvPay X p c a

/-! ## The schedule -/

/-- One round a cell: the barrier's counts one unit from each direction, a transfer's one payment. -/
def Rd : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with
    | .reg _ => barPay g.1.1 d
    | .dma j => match dec j with
      | none => iprop(emp)
      | some k => keyPay X g.1.1 k
  amount_pos g _ _ _ := by
    obtain ⟨t, sm⟩ := g
    cases sm
    · exact Nat.one_pos
    · exact N_pos

instance room_storable (p : Fin 3) (e : Dev nD) (a : Item) : BI.Storable (upEmb : UEmb _ 𝕄) (room p e a) :=
  match p with
  | 0 => by unfold room; infer_instance
  | 1 => by unfold room; infer_instance
  | 2 => by unfold room; infer_instance
instance grant_storable (p : Fin 3) (e : Dev nD) (a : Item) : BI.Storable (upEmb : UEmb _ 𝕄) (grant p e a) := by
  unfold grant; infer_instance
instance barPay_storable (c : Dev nD) (h : Bool) : BI.Storable (upEmb : UEmb _ 𝕄) (barPay c h) := by
  unfold barPay; infer_instance
instance keyPay_storable (c : Dev nD) (k : Key) : BI.Storable (upEmb : UEmb _ 𝕄) (keyPay X c k) :=
  match k with
  | (false, 0, _) => by unfold keyPay sendPay; infer_instance
  | (false, 1, _) => by unfold keyPay sendPay; infer_instance
  | (false, 2, _) => by unfold keyPay sendPay; infer_instance
  | (true, 0, _) => by unfold keyPay recvPay; infer_instance
  | (true, 1, _) => by unfold keyPay recvPay; infer_instance
  | (true, 2, _) => by unfold keyPay recvPay; infer_instance

instance Rd_storable (g : GSem nD τ sig) (r : ℕ) (d : Bool) :
    BI.Storable (upEmb : UEmb _ 𝕄) ((Rd X).payload g r d) := by
  obtain ⟨t, sm⟩ := g
  cases sm with
  | reg s => show BI.Storable upEmb (barPay t.1 d); infer_instance
  | dma j =>
    show BI.Storable upEmb (match dec j with | none => iprop(emp) | some k => keyPay X t.1 k)
    cases dec j
    · show BI.Storable upEmb iprop(emp); infer_instance
    · show BI.Storable upEmb (keyPay X t.1 _); infer_instance

theorem duties_later (g : GSem nD τ sig) : ∀ r, 1 ≤ r → (Rd X).duties g r = ∅ :=
  fun r hr => if_neg (by omega)
theorem duties_bar (c : Dev nD) : (Rd X).duties (bar c) 0 = Finset.univ := rfl
theorem duties_cell (c : Dev nD) (k : Key) : (Rd X).duties (cell c k) 0 = {false} := rfl
theorem duty_cell (c : Dev nD) (k : Key) : false ∈ (Rd X).duties (cell c k) 0 := by
  rw [duties_cell]; exact Finset.mem_singleton_self _
theorem expect_bar (c : Dev nD) : (Rd X).expect (bar c) 0 = 2 := by
  unfold Schedule.expect Schedule.amountOf; rw [duties_bar]; rfl
theorem expect_cell (c : Dev nD) (k : Key) : (Rd X).expect (cell c k) 0 = N := by
  unfold Schedule.expect Schedule.amountOf; rw [duties_cell, Finset.sum_singleton]; rfl
theorem payload_cell (c : Dev nD) (k : Key) (d : Bool) : (Rd X).payload (cell c k) 0 d = keyPay X c k := by
  show (match dec (semOf k) with | none => iprop(emp) | some k => keyPay X c k) = _
  rw [dec_semOf]
theorem rest_bar (c : Dev nD) : bigSep ((Rd X).duties (bar c) 0 \ ∅) (fun u => (Rd X).payload (bar c) 0 u)
    = bigSep Finset.univ fun h => barPay c h := by
  rw [Finset.sdiff_empty, duties_bar]; rfl
theorem rest_cell (c : Dev nD) (k : Key) :
    bigSep ((Rd X).duties (cell c k) 0 \ ∅) (fun u => (Rd X).payload (cell c k) 0 u) = keyPay X c k := by
  rw [Finset.sdiff_empty, duties_cell, bigSep_singleton, payload_cell]

/-! ## Owing and levels -/

/-- Beside `B`, the payments of exchange `p` for the items of the list. -/
def owe (c : Dev nD) (p : Fin 3) : List Item → CellTallies nD τ sig Unit → CellTallies nD τ sig Unit
  | [], B => B
  | a :: l, B => owe c p l B + tallyAt (rcv p (tgt p c a) a) () N

/-- What a device owes after the barrier, and at launch. -/
def owe3 (c : Dev nD) : CellTallies nD τ sig Unit := owe c 0 items (owe c 1 items (owe c 2 items 0))
def O₀ (c : Dev nD) : CellTallies nD τ sig Unit :=
  owe3 c + tallyAt (bar (nb true c)) () 1 + tallyAt (bar (nb false c)) () 1

def L (g : GSem nD τ sig) : Finset Unit := if g.1.2 = .tc then {()} else ∅

/-- The senders' and the staging's semaphores lowest, then the barrier, then the exchanges in order. -/
def lv (g : GSem nD τ sig) (_ : Unit) : ℕ := match g.2 with
  | .reg _ => 1
  | .dma j => match dec j with
    | some (true, p, _) => 2 + p.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (p : Fin 3) (c : Dev nD) (a : Item) : lv (rcv p c a) () = 2 + p.val := by
  show (match dec (semOf (true, p, a)) with | some (true, p, _) => 2 + p.val | _ => 0) = _
  rw [dec_semOf]
theorem lv_snd (p : Fin 3) (c : Dev nD) (a : Item) : lv (snd p c a) () = 0 := by
  show (match dec (semOf (false, p, a)) with | some (true, p, _) => 2 + p.val | _ => 0) = _
  rw [dec_semOf]

/-- Everything owed is at level `n` or above. -/
def Above (n : ℕ) (O : CellTallies nD τ sig Unit) : Prop := ∀ g u, 0 < O g u → u ∈ L g ∧ n ≤ lv g u

theorem above_zero (n : ℕ) : Above n 0 := fun _ _ h => absurd h (Nat.lt_irrefl 0)

theorem above_add {n : ℕ} {O : CellTallies nD τ sig Unit} (h : Above n O) (c : Dev nD) (sm : SemLoc sig) (k : ℕ)
    (hn : n ≤ lv ((c : Thread nD τ), sm) ()) : Above n (O + tallyAt ((c : Thread nD τ), sm) () k) := by
  intro g u hg
  rw [Pi.add_apply, Finsupp.add_apply] at hg
  rcases Nat.add_pos_iff_pos_or_pos.mp hg with hg | hg
  · exact h g u hg
  · rw [tallyAt_apply] at hg
    split at hg
    · next e => rw [e.1, e.2, L_tc]; exact ⟨Finset.mem_singleton_self _, hn⟩
    · exact absurd hg (Nat.lt_irrefl 0)

theorem above_owe {n : ℕ} (c : Dev nD) (p : Fin 3) (hn : n ≤ 2 + p.val) {B : CellTallies nD τ sig Unit} (h : Above n B) :
    ∀ l, Above n (owe c p l B)
  | [] => h
  | a :: l => above_add (above_owe c p hn h l) _ _ _ (by rw [lv_rcv]; exact hn)

theorem above_owe3 (c : Dev nD) : Above 2 (owe3 c) :=
  above_owe c 0 (by decide) (above_owe c 1 (by decide) (above_owe c 2 (by decide) (above_zero 2) _) _) _

theorem above_O₀ (c : Dev nD) : Above 1 (O₀ c) :=
  above_add (above_add (fun g u h => ⟨(above_owe3 c g u h).1, le_trans (by decide) (above_owe3 c g u h).2⟩) _ _ _ (le_refl 1))
    _ _ _ (le_refl 1)

omit [FloatOps F] in
theorem mayWait (c : Dev nD) (sm : SemLoc sig) {O : CellTallies nD τ sig Unit}
    (h : Above (lv ((c : Thread nD τ), sm) () + 1) O) : (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (h g u hg).1)
    (fun p hp => by rw [Finset.mem_singleton.mp hp])
    (fun g u hg => (h g u hg).2)

end Cert.KernelIdeal.AR
-- ==== Proof.Steps.lean ====
/- The steps of the kernel function, one rule for each kind, and a rule for its loops. -/
module

public import proofs.«01_k».proof.Proof.Schedule

@[expose] public section

noncomputable section

namespace Cert.KernelIdeal.AR

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (X : Arrs F)

local notation "𝕄" => MT nD τ sig Unit (Elt F) ℕ UU ℕ

abbrev 𝒱₀ : Variants := Variants.none

/-- The weakest precondition of a piece of device `c`'s program. -/
abbrev run (c : Dev nD) (p : P F PUnit) (K : PUnit → sProp 𝕄) : sProp 𝕄 :=
  wp frame (wpE (defs₀ (F := F)) 𝒱₀ (c : Thread nD τ) none) Set.univ p K

/-! ## What every step may use -/

def barEmb : Dev nD ↪ GSem nD τ sig := ⟨fun c => bar c, fun _ _ h => congrArg (fun g : GSem nD τ sig => g.1.1) h⟩
def keyEmb : Dev nD × Key ↪ GSem nD τ sig :=
  ⟨fun ck => cell ck.1 ck.2, fun _ _ h =>
    Prod.ext (congrArg (fun g : GSem nD τ sig => g.1.1) h) (semOf_inj (SemLoc.dma.inj (congrArg Prod.snd h)))⟩

abbrev barCells : Finset (GSem nD τ sig) := Finset.univ.map barEmb
abbrev keyCells : Finset (GSem nD τ sig) := Finset.univ.map keyEmb

theorem bar_mem (c : Dev nD) : bar c ∈ (barCells ∪ keyCells : Finset (GSem nD τ sig)) :=
  Finset.mem_union_left _ (Finset.mem_map_of_mem barEmb (Finset.mem_univ c))
theorem key_mem (c : Dev nD) (k : Key) : cell c k ∈ (barCells ∪ keyCells : Finset (GSem nD τ sig)) :=
  Finset.mem_union_right _ (Finset.mem_map_of_mem keyEmb (Finset.mem_univ (c, k)))

/-- Every cell's invariant, and that the barrier's cells are open. -/
def records (κ : GSem nD τ sig → ℕ) : sProp 𝕄 :=
  iprop((bigSep (barCells ∪ keyCells) fun g => cellInv ER (Rd X) (κ g) g) ∗ bigSep barCells fun g => reached ER g 0)

instance records_persistent (κ : GSem nD τ sig → ℕ) : BI.Persistent (records X κ) := by unfold records; infer_instance

/-- Those, the levels, and that the device's own cells are open. -/
def ctx (κ : GSem nD τ sig → ℕ) (c : Dev nD) : sProp 𝕄 :=
  iprop(records X κ ∗ levAts L lv ∗ bigSep Finset.univ fun k : Key => reached ER (cell c k) 0)

instance ctx_persistent (κ : GSem nD τ sig → ℕ) (c : Dev nD) : BI.Persistent (ctx X κ c) := by unfold ctx; infer_instance

theorem cells_elim (κ : GSem nD τ sig → ℕ) {g : GSem nD τ sig} (hg : g ∈ (barCells ∪ keyCells : Finset (GSem nD τ sig))) :
    (bigSep (barCells ∪ keyCells) fun g => (cellInv ER (Rd X) (κ g) g : sProp 𝕄)) ⊢ cellInv ER (Rd X) (κ g) g :=
  bigSep_elim hg

omit [FloatOps F] in
theorem bars_elim (e : Dev nD) : (bigSep barCells fun g => (reached ER g 0 : sProp 𝕄)) ⊢ reached ER (bar e) 0 :=
  bigSep_elim (Finset.mem_map_of_mem barEmb (Finset.mem_univ e))

omit [FloatOps F] in
theorem keys_elim (c : Dev nD) (k : Key) :
    (bigSep Finset.univ fun k : Key => (reached ER (cell c k) 0 : sProp 𝕄)) ⊢ reached ER (cell c k) 0 :=
  bigSep_elim (Finset.mem_univ k)

theorem ctx_inv (κ : GSem nD τ sig → ℕ) (c : Dev nD) {g : GSem nD τ sig}
    (hg : g ∈ (barCells ∪ keyCells : Finset (GSem nD τ sig))) : ctx X κ c ⊢ cellInv ER (Rd X) (κ g) g := by
  unfold ctx records
  iintro ⟨⟨H, -⟩, -⟩
  iapply (cells_elim X κ hg)
  iexact H

theorem ctx_bar (κ : GSem nD τ sig → ℕ) (c e : Dev nD) : ctx X κ c ⊢ reached ER (bar e) 0 := by
  unfold ctx records
  iintro ⟨⟨-, H⟩, -⟩
  iapply (bars_elim e)
  iexact H

theorem ctx_lev (κ : GSem nD τ sig → ℕ) (c : Dev nD) : ctx X κ c ⊢ (levAts L lv : sProp 𝕄) := by
  unfold ctx
  iintro ⟨-, H, -⟩
  iexact H

theorem ctx_key (κ : GSem nD τ sig → ℕ) (c : Dev nD) (k : Key) : ctx X κ c ⊢ reached ER (cell c k) 0 := by
  unfold ctx
  iintro ⟨-, -, H⟩
  iapply (keys_elim c k)
  iexact H

/-- What the device owes, its earlier waits left unsaid. -/
def owing (c : Dev nD) (O : CellTallies nD τ sig Unit) : sProp 𝕄 := iprop(∃ W, owes (c : Thread nD τ) O W)

/-- The two duties a transfer pays. -/
def toks (p : Fin 3) (c : Dev nD) (a : Item) : sProp 𝕄 :=
  iprop(dutyTok ER (snd p c a) 0 false ∗ dutyTok ER (rcv p (tgt p c a) a) 0 false)

/-! ## Starting a transfer -/

omit [FloatOps F] in
theorem to_amount (p : Fin 3) (c : Dev nD) (a : Item) (j : DmaSem sig) :
    (to_ oM cM p c a).view.amount (.dma j) = N := by
  match p with
  | 0 => rfl
  | 1 => rfl
  | 2 => rfl

/-- A transfer's start, its semaphores named. -/
abbrev startAt (p : Fin 3) (c : Dev nD) (a : Item) (s r : DmaSem sig) : P F PUnit :=
  Prog.lift (.enqueueDma (from_ xM oM p c a)
    (.remote (Dev.tc (tgt p c a)) (to_ oM cM p c a) (.dma s)) (.dma r)
    (View.wordExact_bits rfl) (View.wordExact_bits rfl) ⟨⟨rfl, Or.inl rfl⟩, trivial⟩)

omit [FloatOps F] in
theorem start_eq (p : Fin 3) (c : Dev nD) (a : Item) :
    (start xM oM cM cc0_scratch1 cc0_scratch2 p c a : P F PUnit) = startAt p c a (semOf (false, p, a)) (semOf (true, p, a)) :=
  congrArg₂ (startAt p c a) (send_sem p a) (recv_sem p a)

theorem start_gen (κ : GSem nD τ sig → ℕ) (c : Dev nD) (p : Fin 3) (a : Item)
    (fs : Buf (Elt F) ((from_ xM oM p c a).view.loc (c : Thread nD τ)))
    (fd : Buf (Elt F) ((to_ oM cM p c a).view.loc (tgt p c a : Thread nD τ)))
    (hs : ((from_ xM oM p c a).view.loc (c : Thread nD τ) ↦[(from_ xM oM p c a).view.set]{fullShare} fs : sProp 𝕄) ⊢ sendPay X p c a)
    (hd : ((to_ oM cM p c a).view.loc (tgt p c a : Thread nD τ) ↦[(to_ oM cM p c a).view.set]{fullShare}
        ((to_ oM cM p c a).view.write (Elt F) fd ((from_ xM oM p c a).view.read (Elt F) fs) Finset.univ) : sProp 𝕄)
      ⊢ recvPay X p (tgt p c a) a)
    (l : List Item) (B : CellTallies nD τ sig Unit) (K : PUnit → sProp 𝕄) :
    iprop(ctx X κ c
        ∗ ((from_ xM oM p c a).view.loc (c : Thread nD τ) ↦[(from_ xM oM p c a).view.set]{fullShare} fs)
        ∗ ((to_ oM cM p c a).view.loc (tgt p c a : Thread nD τ) ↦[(to_ oM cM p c a).view.set]{fullShare} fd)
        ∗ reached ER (rcv p (tgt p c a) a) 0 ∗ toks p c a ∗ owing c (owe c p (a :: l) B)
        ∗ ((owing c (owe c p l B) ∗ cred (tallyAt (snd p c a) () N)) -∗ K ⟨⟩))
      ⊢ run c (start xM oM cM cc0_scratch1 cc0_scratch2 p c a) K := by
  rw [start_eq]
  unfold startAt run toks owing
  iintro ⟨#HC, Hs, Hd, #Hr, ⟨Ht1, Ht2⟩, ⟨%W, HO⟩, HK⟩
  iapply (Rounds.wp_send_pointsTo 𝒱₀ ER (Rd X) (c : Thread nD τ) none (c' := (tgt p c a : Thread nD τ))
      (src := from_ xM oM p c a) (dst := to_ oM cM p c a)
      (sS := .dma (semOf (false, p, a))) (sem := .dma (semOf (true, p, a))) (q := fullShare) (fs := fs) (fd := fd)
      (κ₁ := κ (snd p c a)) (κ₂ := κ (rcv p (tgt p c a) a)) (r₁ := 0) (r₂ := 0) (d₁ := false) (d₂ := false)
      (duty_cell X c _) (duty_cell X (tgt p c a) _) () () N (to_amount p c a _) rfl rfl (owe c p l B) rfl (W := W)
      (by rw [payload_cell]; exact hs) (by rw [payload_cell]; exact hd)) $$ [Hs Hd HO Ht1 Ht2]
  · isplitr; · iapply (ctx_inv X κ c (key_mem c _)); iexact HC
    isplitr; · iapply (ctx_inv X κ c (key_mem (tgt p c a) _)); iexact HC
    isplitl [Hs]; · iexact Hs
    isplitl [Hd]; · iexact Hd
    isplitl [HO]; · iexact HO
    isplitl [Ht1]; · iexact Ht1
    isplitr; · iapply (ctx_key X κ c); iexact HC
    isplitl [Ht2]; · iexact Ht2
    iexact Hr
  iintro ⟨Hc, HO⟩
  rw [wp_ret]
  imodintro
  iapply HK
  isplitl [HO]; · iexists W; iexact HO
  iexact Hc

/-- A transfer begins: the chunk and the place there are given up, and the credit to wait for the chunk's return is had. -/
theorem start_run (κ : GSem nD τ sig → ℕ) (c : Dev nD) (p : Fin 3) (a : Item) (l : List Item)
    (B : CellTallies nD τ sig Unit) (K : PUnit → sProp 𝕄) :
    iprop(ctx X κ c ∗ sendPay X p c a ∗ grant p c a ∗ toks p c a ∗ owing c (owe c p (a :: l) B)
        ∗ ((owing c (owe c p l B) ∗ cred (tallyAt (snd p c a) () N)) -∗ K ⟨⟩))
      ⊢ run c (start xM oM cM cc0_scratch1 cc0_scratch2 p c a) K := by
  match p with
  | 0 =>
    unfold grant room sendPay
    iintro ⟨HC, Hs, ⟨⟨%fd, Hd⟩, Hr⟩, Ht, HO, HK⟩
    iapply (start_gen X κ c 0 a (X c) fd (by unfold sendPay; rw [← xChunk_set])
      (by
        unfold recvPay
        refine Entails.of_eq ?_
        rw [show (to_ oM cM 0 c a).view.set = slabRows (slab 0 a) a.1 from cChunk_set _ _]
        exact pointsTo_congr (land_first X c a fd)) l B K)
    isplitl [HC]; · iexact HC
    isplitl [Hs]; · rw [show (from_ xM oM 0 c a).view.set = part c (true, a) from xChunk_set c a]; iexact Hs
    isplitl [Hd]; · rw [show (to_ oM cM 0 c a).view.set = slabRows (slab 0 a) a.1 from cChunk_set _ _]; iexact Hd
    isplitl [Hr]; · iexact Hr
    isplitl [Ht]; · iexact Ht
    isplitl [HO]; · iexact HO
    iexact HK
  | 1 =>
    unfold grant room sendPay
    iintro ⟨HC, Hs, ⟨⟨%fd, Hd⟩, Hr⟩, Ht, HO, HK⟩
    iapply (start_gen X κ c 1 a (two X c) fd (by unfold sendPay; rw [← oChunk_set])
      (by
        unfold recvPay
        refine Entails.of_eq ?_
        rw [show (to_ oM cM 1 c a).view.set = slabRows (slab 1 a) a.1 from cChunk_set _ _]
        exact pointsTo_congr (land_second X c a fd)) l B K)
    isplitl [HC]; · iexact HC
    isplitl [Hs]; · rw [show (from_ xM oM 1 c a).view.set = part c (false, a) from oChunk_set c a]; iexact Hs
    isplitl [Hd]; · rw [show (to_ oM cM 1 c a).view.set = slabRows (slab 1 a) a.1 from cChunk_set _ _]; iexact Hd
    isplitl [Hr]; · iexact Hr
    isplitl [Ht]; · iexact Ht
    isplitl [HO]; · iexact HO
    iexact HK
  | 2 =>
    have hset : (to_ oM cM 2 c a).view.set = part (tgt 2 c a) (true, a) := by
      rw [part_true, show nb a.2 (tgt 2 c a) = c from nb_nb _ _]; exact oChunk_set c a
    unfold grant room sendPay
    iintro ⟨HC, Hs, ⟨⟨%fd, Hd⟩, Hr⟩, Ht, HO, HK⟩
    iapply (start_gen X κ c 2 a (four X c) fd (by unfold sendPay; rw [← oChunk_set])
      (by
        unfold recvPay
        refine Entails.of_eq ?_
        rw [hset]
        refine pointsTo_congr fun i hi => ?_
        rw [result_oth X _ a i hi, show nb a.2 (tgt 2 c a) = c from nb_nb _ _]
        rw [part_true, show nb a.2 (tgt 2 c a) = c from nb_nb _ _] at hi
        exact land_third X c a fd i hi) l B K)
    isplitl [HC]; · iexact HC
    isplitl [Hs]; · rw [show (from_ xM oM 2 c a).view.set = part c (false, a) from oChunk_set c a]; iexact Hs
    isplitl [Hd]; · rw [hset]; iexact Hd
    isplitl [Hr]; · iexact Hr
    isplitl [Ht]; · iexact Ht
    isplitl [HO]; · iexact HO
    iexact HK

/-! ## Waiting -/

/-- What a wait on a transfer's semaphore needs, and what it leaves beside the payment. -/
def waiting (c : Dev nD) (k : Key) : sProp 𝕄 := iprop(atPos ER (cell c k) 0 ∅ 0 ∗ cred (tallyAt (cell c k) () N))
def waited (c : Dev nD) (k : Key) : sProp 𝕄 := atPos ER (cell c k) 1 ∅ 0

theorem wait_gen (κ : GSem nD τ sig → ℕ) (c : Dev nD) (k : Key) (O : CellTallies nD τ sig Unit)
    (hO : Above (lv (cell c k) () + 1) O) {s s' : Shape} {e e' : EltTy} {sp sp' : Space}
    (src : Memref sig .tc sp' s' e') (dst : Memref sig .tc sp s e) (hsrc : src.view.WordExact) (hdst : dst.view.WordExact)
    (hN : dst.view.dmaCredit = N) (K : PUnit → sProp 𝕄) :
    iprop(ctx X κ c ∗ waiting c k ∗ owing c O ∗ ((owing c O ∗ waited c k ∗ keyPay X c k) -∗ K ⟨⟩))
      ⊢ run c (Prog.lift (.waitDma2 (semOf k) src dst hsrc hdst)) K := by
  unfold run owing waiting waited
  iintro ⟨#HC, ⟨Hat, Hc⟩, ⟨%W, HO⟩, HK⟩
  iapply (Rounds.wp_wait_rest_token 𝒱₀ ER (Rd X) (c : Thread nD τ) none (κ := κ (cell c k))
      (wpE_waitDma2_eq 𝒱₀ (c : Thread nD τ) none Set.univ) (Set.mem_univ _) () (O := O) (W := W) (R := 0) (m := 0) (T := ∅)
      ((Nat.zero_add _).trans (hN.trans (expect_cell X c k).symm))) $$ [Hc HO Hat]
  · isplitr; · iapply (ctx_inv X κ c (key_mem c _)); iexact HC
    isplitl [Hc]; · rw [hN]; iexact Hc
    isplitl [HO]; · iexact HO
    isplitr; · iapply (mayWait c _ hO); iapply (ctx_lev X κ c); iexact HC
    iexact Hat
  iintro ⟨HO, Hat, -, Hp⟩
  rw [wp_ret]
  imodintro
  iapply HK
  isplitl [HO]; · iexists _; iexact HO
  isplitl [Hat]; · iexact Hat
  iapply (Entails.of_eq (rest_cell X c k)); iexact Hp

omit [FloatOps F] in
theorem from_credit (p : Fin 3) (c : Dev nD) (a : Item) : (from_ xM oM p c a).view.dmaCredit = N := by
  match p with
  | 0 => rfl
  | 1 => rfl
  | 2 => rfl
omit [FloatOps F] in
theorem to_credit (p : Fin 3) (c : Dev nD) (a : Item) : (to_ oM cM p c a).view.dmaCredit = N := by
  match p with
  | 0 => rfl
  | 1 => rfl
  | 2 => rfl

/-- The wait for a chunk to land here. -/
theorem waitR_run (κ : GSem nD τ sig → ℕ) (c : Dev nD) (p : Fin 3) (a : Item) (O : CellTallies nD τ sig Unit)
    (hO : Above (3 + p.val) O) (K : PUnit → sProp 𝕄) :
    iprop(ctx X κ c ∗ waiting c (true, p, a) ∗ owing c O
        ∗ ((owing c O ∗ waited c (true, p, a) ∗ recvPay X p c a) -∗ K ⟨⟩))
      ⊢ run c (waitR xM oM cM cc0_scratch2 p c a) K := by
  unfold waitR
  rw [recv_sem]
  exact wait_gen X κ c (true, p, a) O (by rw [lv_rcv, show 2 + p.val + 1 = 3 + p.val by omega]; exact hO) _ _ _ _
    (to_credit p c a) K

/-- The wait for a chunk sent to have left. -/
theorem waitS_run (κ : GSem nD τ sig → ℕ) (c : Dev nD) (p : Fin 3) (a : Item) (O : CellTallies nD τ sig Unit)
    (hO : Above 1 O) (K : PUnit → sProp 𝕄) :
    iprop(ctx X κ c ∗ waiting c (false, p, a) ∗ owing c O
        ∗ ((owing c O ∗ waited c (false, p, a) ∗ sendPay X p c a) -∗ K ⟨⟩))
      ⊢ run c (waitS xM oM cM cc0_scratch1 p c a) K := by
  unfold waitS
  rw [send_sem]
  exact wait_gen X κ c (false, p, a) O (by rw [lv_snd]; exact hO) _ _ _ _ (from_credit p c a) K

/-! ## Adding -/

omit [FloatOps F] in
theorem own_access (d : Dev nD) (a : Item) : (oM.access (ownRect d a)).set = part d (false, a) := oChunk_set d a

omit [FloatOps F] in
theorem own_access_x (d : Dev nD) (a : Item) : (xM.access (ownRect d a)).set = part d (false, a) := by
  show ((View.whole cc0_stg0_0).slice _).set = _
  rw [View.set_slice_whole]
  exact rowRect_set _ (ownOff_eq d a)

omit [FloatOps F] in
theorem slab_access (b k : Fin 4) : (cM.access (slabRect b k)).set = slabRows b k := by
  show ((View.whole cc0_scratch0).slice _).set = _
  rw [View.set_slice_whole]
  exact slabRect_set b k

/-- The first sum of a chunk. -/
theorem add_first (c : Dev nD) (a : Item) (K : PUnit → sProp 𝕄) :
    iprop(ptX c (part c (false, a)) (X c) ∗ ptC c (slabRows (slab 0 a) a.1) (landed X c) ∗ (∃ f, ptO c (part c (false, a)) f)
        ∗ ((ptX c (part c (false, a)) (X c) ∗ ptC c (slabRows (slab 0 a) a.1) (landed X c)
            ∗ ptO c (part c (false, a)) (two X c)) -∗ K ⟨⟩))
      ⊢ run c (addTo xM oM cM (slab 0 a) c a) K := by
  unfold addTo run
  iintro ⟨Hx, Hc, ⟨%f, Ho⟩, HK⟩
  iapply (wp_load_rect 𝒱₀ (c : Thread nD τ) none Set.univ (m := xM) (r := ownRect c a) (S := part c (false, a)) (q := fullShare)
    (f := X c) (le_of_eq (own_access_x c a))) $$ [Hx]
  · iexact Hx
  iintro Hx
  iapply (wp_load_rect 𝒱₀ (c : Thread nD τ) none Set.univ (m := cM) (r := slabRect (slab 0 a) a.1) (S := slabRows (slab 0 a) a.1)
    (q := fullShare) (f := landed X c) (le_of_eq (slab_access _ _))) $$ [Hc]
  · iexact Hc
  iintro Hc
  iapply (wp_load_rect 𝒱₀ (c : Thread nD τ) none Set.univ (m := oM) (r := ownRect c a) (S := part c (false, a)) (q := fullShare)
    (f := f) (le_of_eq (own_access c a))) $$ [Ho]
  · iexact Ho
  iintro Ho
  iapply (wp_store 𝒱₀ (c : Thread nD τ) none Set.univ (m := oM) (r := ownRect c a) (S := part c (false, a)) (f := f)
    (le_of_eq (own_access c a))) $$ [Ho]
  · iexact Ho
  iintro Ho
  rw [wp_ret]
  imodintro
  iapply HK
  isplitl [Hx]; · iexact Hx
  isplitl [Hc]; · iexact Hc
  iapply (Entails.of_eq (pointsTo_congr (store_first X c a f _ rfl _ rfl))); iexact Ho

/-- The second. -/
theorem add_second (c : Dev nD) (a : Item) (K : PUnit → sProp 𝕄) :
    iprop(ptC c (slabRows (slab 1 a) a.1) (landed X c) ∗ ptO c (part c (false, a)) (two X c)
        ∗ ((ptC c (slabRows (slab 1 a) a.1) (landed X c) ∗ ptO c (part c (false, a)) (four X c)) -∗ K ⟨⟩))
      ⊢ run c (addTo oM oM cM (slab 1 a) c a) K := by
  unfold addTo run
  iintro ⟨Hc, Ho, HK⟩
  iapply (wp_load_rect 𝒱₀ (c : Thread nD τ) none Set.univ (m := oM) (r := ownRect c a) (S := part c (false, a)) (q := fullShare)
    (f := two X c) (le_of_eq (own_access c a))) $$ [Ho]
  · iexact Ho
  iintro Ho
  iapply (wp_load_rect 𝒱₀ (c : Thread nD τ) none Set.univ (m := cM) (r := slabRect (slab 1 a) a.1) (S := slabRows (slab 1 a) a.1)
    (q := fullShare) (f := landed X c) (le_of_eq (slab_access _ _))) $$ [Hc]
  · iexact Hc
  iintro Hc
  iapply (wp_load_rect 𝒱₀ (c : Thread nD τ) none Set.univ (m := oM) (r := ownRect c a) (S := part c (false, a)) (q := fullShare)
    (f := two X c) (le_of_eq (own_access c a))) $$ [Ho]
  · iexact Ho
  iintro Ho
  iapply (wp_store 𝒱₀ (c : Thread nD τ) none Set.univ (m := oM) (r := ownRect c a) (S := part c (false, a)) (f := two X c)
    (le_of_eq (own_access c a))) $$ [Ho]
  · iexact Ho
  iintro Ho
  rw [wp_ret]
  imodintro
  iapply HK
  isplitl [Hc]; · iexact Hc
  iapply (Entails.of_eq (pointsTo_congr (store_second X c a (two X c) _ rfl _ rfl))); iexact Ho

/-! ## Loops -/

theorem each_run (c : Dev nD) (St : List Item → sProp 𝕄) (Pre Post : Item → sProp 𝕄) (f : Item → P F PUnit)
    (h : ∀ (a : Item) (l : List Item) (K : PUnit → sProp 𝕄),
      iprop(St (a :: l) ∗ Pre a ∗ ((St l ∗ Post a) -∗ K ⟨⟩)) ⊢ run c (f a) K) :
    ∀ (l : List Item) (K : PUnit → sProp 𝕄),
      iprop(St l ∗ bigSepL l Pre ∗ ((St [] ∗ bigSepL l Post) -∗ K ⟨⟩)) ⊢ run c (each l f) K
  | [], K => by
    unfold each run
    rw [bigSepL_nil, bigSepL_nil, wp_pure]
    iintro ⟨HS, -, HK⟩
    imodintro
    iapply HK
    isplitl [HS]; · iexact HS
    iempintro
  | a :: l, K => by
    have ih := each_run c St Pre Post f h l
    unfold each
    show _ ⊢ wp frame _ Set.univ (f a >>= fun _ => each l f) K
    rw [wp_bind, bigSepL_cons', bigSepL_cons']
    iintro ⟨HS, ⟨Ha, Hl⟩, HK⟩
    iapply (h a l _)
    isplitl [HS]; · iexact HS
    isplitl [Ha]; · iexact Ha
    iintro ⟨HS, Hb⟩
    iapply (ih K)
    isplitl [HS]; · iexact HS
    isplitl [Hl]; · iexact Hl
    iintro ⟨HS, Hl⟩
    iapply HK
    isplitl [HS]; · iexact HS
    isplitl [Hb] <;> iassumption

omit [FloatOps F] in
theorem items_sep (Φ : Item → sProp 𝕄) : bigSep Finset.univ Φ = bigSepL items Φ :=
  bigSep_univ_eq_bigSepL items (by decide) (by decide) Φ

/-- A loop over all items. -/
theorem loop_run (c : Dev nD) (St : List Item → sProp 𝕄) (Pre Post : Item → sProp 𝕄) (f : Item → P F PUnit)
    (h : ∀ (a : Item) (l : List Item) (K : PUnit → sProp 𝕄),
      iprop(St (a :: l) ∗ Pre a ∗ ((St l ∗ Post a) -∗ K ⟨⟩)) ⊢ run c (f a) K) (K : PUnit → sProp 𝕄) :
    iprop(St items ∗ bigSep Finset.univ Pre ∗ ((St [] ∗ bigSep Finset.univ Post) -∗ K ⟨⟩)) ⊢ run c (each items f) K := by
  rw [items_sep, items_sep]
  exact each_run c St Pre Post f h items K

end Cert.KernelIdeal.AR
-- ==== Proof.Body.lean ====
/- The kernel function's run on one device: the barrier, the five loops, and the buffers and counters it leaves. -/
module

public import proofs.«01_k».proof.Proof.Steps

@[expose] public section

noncomputable section

namespace Cert.KernelIdeal.AR

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (X : Arrs F)

local notation "𝕄" => MT nD τ sig Unit (Elt F) ℕ UU ℕ

/-! ## Families over the items -/

/-- One assertion for every item. -/
abbrev every (Φ : Item → sProp 𝕄) : sProp 𝕄 := bigSep Finset.univ Φ

omit [FloatOps F] in
theorem bool_sep (Φ : Bool → sProp 𝕄) : bigSep Finset.univ Φ = iprop(Φ false ∗ Φ true) :=
  bigSep_univ_eq_bigSepL [false, true] (by decide) (by decide) Φ

omit [FloatOps F] in
theorem three_sep (Φ : Fin 3 → sProp 𝕄) : bigSep Finset.univ Φ = iprop(Φ 0 ∗ Φ 1 ∗ Φ 2) :=
  bigSep_univ_eq_bigSepL [0, 1, 2] (by decide) (by decide) Φ

omit [FloatOps F] in
theorem by_exchange (Φ : Fin 3 × Item → sProp 𝕄) : bigSep Finset.univ Φ
    = iprop(every (fun a => Φ (0, a)) ∗ every (fun a => Φ (1, a)) ∗ every (fun a => Φ (2, a))) := by
  rw [bigSep_univ_prod, three_sep]

omit [FloatOps F] in
theorem by_key (Φ : Key → sProp 𝕄) : bigSep Finset.univ Φ
    = iprop((every (fun a => Φ (false, 0, a)) ∗ every (fun a => Φ (false, 1, a)) ∗ every (fun a => Φ (false, 2, a)))
      ∗ (every (fun a => Φ (true, 0, a)) ∗ every (fun a => Φ (true, 1, a)) ∗ every (fun a => Φ (true, 2, a)))) := by
  rw [bigSep_univ_prod, bool_sep, by_exchange, by_exchange]

omit [FloatOps F] in
/-- Two families as one of pairs, and back. -/
theorem sep_in {I : Type} [Fintype I] {Φ Ψ : I → sProp 𝕄} :
    iprop(bigSep Finset.univ Φ ∗ bigSep Finset.univ Ψ) ⊢ bigSep Finset.univ (fun i => iprop(Φ i ∗ Ψ i)) :=
  Entails.of_eq (bigSep_sep _ _ _).symm
omit [FloatOps F] in
theorem sep_out {I : Type} [Fintype I] {Φ Ψ : I → sProp 𝕄} :
    bigSep Finset.univ (fun i => iprop(Φ i ∗ Ψ i)) ⊢ iprop(bigSep Finset.univ Φ ∗ bigSep Finset.univ Ψ) :=
  Entails.of_eq (bigSep_sep _ _ _)

omit [FloatOps F] in
theorem every_mono {Φ Ψ : Item → sProp 𝕄} (h : ∀ a, Φ a ⊢ Ψ a) : every Φ ⊢ every Ψ := bigSep_mono fun a _ => h a

/-- A transfer by the direction it goes. -/
def turn : Bool × (Fin 3 × Fin 4) ≃ Fin 3 × Item where
  toFun q := (q.2.1, q.2.2, dir q.2.1 q.1)
  invFun q := (dir q.1 q.2.2, q.1, q.2.1)
  left_inv q := by obtain ⟨h, p, k⟩ := q; dsimp only; rw [dir_dir]
  right_inv q := by obtain ⟨p, k, b⟩ := q; dsimp only; rw [dir_dir]

omit [FloatOps F] in
theorem by_direction (Φ : Fin 3 × Item → sProp 𝕄) : bigSep Finset.univ Φ
    = bigSep Finset.univ fun h : Bool => bigSep Finset.univ fun q : Fin 3 × Fin 4 => Φ (q.1, q.2, dir q.1 h) := by
  rw [bigSep_univ_equiv turn, bigSep_univ_prod]
  rfl

/-! ## The buffers, cut -/

omit [FloatOps F] in
theorem x_cut (c : Dev nD) (f : cc0_stg0_0.ty.Contents (Elt F)) : (ptX c Finset.univ f : sProp 𝕄)
    = iprop(every (fun a => ptX c (part c (false, a)) f) ∗ every (fun a => ptX c (part c (true, a)) f)) := by
  unfold ptX
  rw [← part_cover c, pointsTo_biUnion _ _ fun q _ q' _ h => part_disjoint c q q' h, bigSep_univ_prod, bool_sep]

omit [FloatOps F] in
theorem o_cut (c : Dev nD) (f : cc0_stg1_0.ty.Contents (Elt F)) : (ptO c Finset.univ f : sProp 𝕄)
    = iprop(every (fun a => ptO c (part c (false, a)) f) ∗ every (fun a => ptO c (part c (true, a)) f)) := by
  unfold ptO
  rw [← part_cover c, pointsTo_biUnion _ _ fun q _ q' _ h => part_disjoint c q q' h, bigSep_univ_prod, bool_sep]

theorem slab_inj : ∀ q q' : Fin 2 × Item, (slab q.1 q.2, q.2.1) = (slab q'.1 q'.2, q'.2.1) → q = q' := by decide +kernel
theorem slab_onto : ∀ b : Fin 4 × Fin 4, ∃ q : Fin 2 × Item, (slab q.1 q.2, q.2.1) = b := by decide +kernel

theorem slabs_cover : (Finset.univ : Finset (Fin 2 × Item)).biUnion (fun q => slabRows (slab q.1 q.2) q.2.1) = Finset.univ := by
  refine Finset.eq_univ_of_forall fun i => ?_
  have hi := Finset.mem_univ i
  rw [← slabRows_cover] at hi
  obtain ⟨b, -, hb⟩ := Finset.mem_biUnion.mp hi
  obtain ⟨q, rfl⟩ := slab_onto b
  exact Finset.mem_biUnion.mpr ⟨q, Finset.mem_univ _, hb⟩

omit [FloatOps F] in
theorem c_cut (c : Dev nD) (f : cc0_scratch0.ty.Contents (Elt F)) : (ptC c Finset.univ f : sProp 𝕄)
    = iprop(every (fun a => ptC c (slabRows (slab 0 a) a.1) f) ∗ every (fun a => ptC c (slabRows (slab 1 a) a.1) f)) := by
  unfold ptC
  rw [← slabs_cover, pointsTo_biUnion _ _ fun q _ q' _ h => slabRows_disjoint _ _ fun e => h (slab_inj q q' e),
    bigSep_univ_prod, BI.bigSep_fin_two]
  rfl

/-! ## The loops -/

theorem recv0 (c : Dev nD) (a : Item) : recvPay X 0 c a ⊢ ptC c (slabRows (slab 0 a) a.1) (landed X c) := .rfl
theorem recv1 (c : Dev nD) (a : Item) : recvPay X 1 c a ⊢ ptC c (slabRows (slab 1 a) a.1) (landed X c) := .rfl
theorem send1 (c : Dev nD) (a : Item) : sendPay X 1 c a ⊢ ptO c (part c (false, a)) (two X c) := .rfl
theorem send1' (c : Dev nD) (a : Item) : ptO c (part c (false, a)) (two X c) ⊢ sendPay X 1 c a := .rfl
theorem send0 (c : Dev nD) (a : Item) : sendPay X 0 c a ⊢ ptX c (part c (true, a)) (X c) := .rfl
theorem recv2 (c : Dev nD) (a : Item) : recvPay X 2 c a ⊢ ptO c (part c (true, a)) (result X c) := .rfl
theorem send2 (c : Dev nD) (a : Item) : sendPay X 2 c a ⊢ ptO c (part c (false, a)) (four X c) := .rfl
theorem send0' (c : Dev nD) (a : Item) : ptX c (part c (true, a)) (X c) ⊢ sendPay X 0 c a := .rfl
theorem send2' (c : Dev nD) (a : Item) : ptO c (part c (false, a)) (four X c) ⊢ sendPay X 2 c a := .rfl

abbrev O2 (c : Dev nD) : CellTallies nD τ sig Unit := owe c 2 items 0
abbrev O1 (c : Dev nD) : CellTallies nD τ sig Unit := owe c 1 items (O2 c)

theorem loop0 (κ : GSem nD τ sig → ℕ) (c : Dev nD) (K : PUnit → sProp 𝕄) :
    iprop((ctx X κ c ∗ owing c (owe3 c)) ∗ every (fun a => iprop(sendPay X 0 c a ∗ grant 0 c a ∗ toks 0 c a))
        ∗ (((ctx X κ c ∗ owing c (O1 c)) ∗ every (fun a => cred (tallyAt (snd 0 c a) () N))) -∗ K ⟨⟩))
      ⊢ run c (each items fun a => start xM oM cM cc0_scratch1 cc0_scratch2 0 c a) K :=
  loop_run c (fun l => iprop(ctx X κ c ∗ owing c (owe c 0 l (O1 c)))) _ _ _ (fun a l K => by
    iintro ⟨⟨#HC, HO⟩, ⟨Hs, Hg, Ht⟩, HK⟩
    iapply (start_run X κ c 0 a l (O1 c) K)
    isplitr; · iexact HC
    isplitl [Hs]; · iexact Hs
    isplitl [Hg]; · iexact Hg
    isplitl [Ht]; · iexact Ht
    isplitl [HO]; · iexact HO
    iintro ⟨HO, Hc⟩
    iapply HK
    isplitl [HO]
    · isplitr; · iexact HC
      iexact HO
    iexact Hc) K

theorem loop1 (κ : GSem nD τ sig → ℕ) (c : Dev nD) (K : PUnit → sProp 𝕄) :
    iprop((ctx X κ c ∗ owing c (O1 c))
        ∗ every (fun a => iprop(waiting c (true, 0, a) ∗ ptX c (part c (false, a)) (X c) ∗ (∃ f, ptO c (part c (false, a)) f)
            ∗ grant 1 c a ∗ toks 1 c a))
        ∗ (((ctx X κ c ∗ owing c (O2 c))
            ∗ every (fun a => iprop(waited c (true, 0, a) ∗ ptX c (part c (false, a)) (X c)
                ∗ ptC c (slabRows (slab 0 a) a.1) (landed X c) ∗ cred (tallyAt (snd 1 c a) () N)))) -∗ K ⟨⟩))
      ⊢ run c (each items fun a => do
          waitR xM oM cM cc0_scratch2 0 c a
          addTo xM oM cM (slab 0 a) c a
          start xM oM cM cc0_scratch1 cc0_scratch2 1 c a) K :=
  loop_run c (fun l => iprop(ctx X κ c ∗ owing c (owe c 1 l (O2 c)))) _ _ _ (fun a l K => by
    unfold run
    simp only [wp_bind]
    iintro ⟨⟨#HC, HO⟩, ⟨Hw, Hx, Ho, Hg, Ht⟩, HK⟩
    iapply (waitR_run X κ c 0 a (owe c 1 (a :: l) (O2 c)) (above_owe c 1 (by decide) (above_owe c 2 (by decide) (above_zero _) _) _) _)
    isplitr; · iexact HC
    isplitl [Hw]; · iexact Hw
    isplitl [HO]; · iexact HO
    iintro ⟨HO, Hw, Hc⟩
    iapply (add_first X c a _)
    isplitl [Hx]; · iexact Hx
    isplitl [Hc]; · iapply (recv0 X c a); iexact Hc
    isplitl [Ho]; · iexact Ho
    iintro ⟨Hx, Hc, Ho⟩
    iapply (start_run X κ c 1 a l (O2 c) K)
    isplitr; · iexact HC
    isplitl [Ho]; · iapply (send1' X c a); iexact Ho
    isplitl [Hg]; · iexact Hg
    isplitl [Ht]; · iexact Ht
    isplitl [HO]; · iexact HO
    iintro ⟨HO, Hcr⟩
    iapply HK
    isplitl [HO]
    · isplitr; · iexact HC
      iexact HO
    isplitl [Hw]; · iexact Hw
    isplitl [Hx]; · iexact Hx
    isplitl [Hc]; · iexact Hc
    iexact Hcr) K

theorem loop2 (κ : GSem nD τ sig → ℕ) (c : Dev nD) (K : PUnit → sProp 𝕄) :
    iprop((ctx X κ c ∗ owing c (O2 c))
        ∗ every (fun a => iprop(waiting c (true, 1, a) ∗ waiting c (false, 1, a) ∗ grant 2 c a ∗ toks 2 c a))
        ∗ (((ctx X κ c ∗ owing c 0)
            ∗ every (fun a => iprop(waited c (true, 1, a) ∗ waited c (false, 1, a)
                ∗ ptC c (slabRows (slab 1 a) a.1) (landed X c) ∗ cred (tallyAt (snd 2 c a) () N)))) -∗ K ⟨⟩))
      ⊢ run c (each items fun a => do
          waitR xM oM cM cc0_scratch2 1 c a
          waitS xM oM cM cc0_scratch1 1 c a
          addTo oM oM cM (slab 1 a) c a
          start xM oM cM cc0_scratch1 cc0_scratch2 2 c a) K :=
  loop_run c (fun l => iprop(ctx X κ c ∗ owing c (owe c 2 l 0))) _ _ _ (fun a l K => by
    unfold run
    simp only [wp_bind]
    iintro ⟨⟨#HC, HO⟩, ⟨Hw, Hv, Hg, Ht⟩, HK⟩
    iapply (waitR_run X κ c 1 a (owe c 2 (a :: l) 0) (above_owe c 2 (by decide) (above_zero _) _) _)
    isplitr; · iexact HC
    isplitl [Hw]; · iexact Hw
    isplitl [HO]; · iexact HO
    iintro ⟨HO, Hw, Hc⟩
    iapply (waitS_run X κ c 1 a (owe c 2 (a :: l) 0) (above_owe c 2 (by decide) (above_zero _) _) _)
    isplitr; · iexact HC
    isplitl [Hv]; · iexact Hv
    isplitl [HO]; · iexact HO
    iintro ⟨HO, Hv, Ho⟩
    iapply (add_second X c a _)
    isplitl [Hc]; · iapply (recv1 X c a); iexact Hc
    isplitl [Ho]; · iapply (send1 X c a); iexact Ho
    iintro ⟨Hc, Ho⟩
    iapply (start_run X κ c 2 a l 0 K)
    isplitr; · iexact HC
    isplitl [Ho]; · iapply (send2' X c a); iexact Ho
    isplitl [Hg]; · iexact Hg
    isplitl [Ht]; · iexact Ht
    isplitl [HO]; · iexact HO
    iintro ⟨HO, Hcr⟩
    iapply HK
    isplitl [HO]
    · isplitr; · iexact HC
      iexact HO
    isplitl [Hw]; · iexact Hw
    isplitl [Hv]; · iexact Hv
    isplitl [Hc]; · iexact Hc
    iexact Hcr) K

theorem loop3 (κ : GSem nD τ sig → ℕ) (c : Dev nD) (K : PUnit → sProp 𝕄) :
    iprop((ctx X κ c ∗ owing c 0) ∗ every (fun a => waiting c (true, 2, a))
        ∗ (((ctx X κ c ∗ owing c 0) ∗ every (fun a => iprop(waited c (true, 2, a) ∗ recvPay X 2 c a))) -∗ K ⟨⟩))
      ⊢ run c (each items fun a => waitR xM oM cM cc0_scratch2 2 c a) K :=
  loop_run c (fun _ => iprop(ctx X κ c ∗ owing c 0)) _ _ _ (fun a l K => by
    iintro ⟨⟨#HC, HO⟩, Hw, HK⟩
    iapply (waitR_run X κ c 2 a 0 (above_zero _) _)
    isplitr; · iexact HC
    isplitl [Hw]; · iexact Hw
    isplitl [HO]; · iexact HO
    iintro ⟨HO, Hw, Hc⟩
    iapply HK
    isplitl [HO]
    · isplitr; · iexact HC
      iexact HO
    isplitl [Hw]; · iexact Hw
    iexact Hc) K

theorem loop4 (κ : GSem nD τ sig → ℕ) (c : Dev nD) (K : PUnit → sProp 𝕄) :
    iprop((ctx X κ c ∗ owing c 0) ∗ every (fun a => iprop(waiting c (false, 0, a) ∗ waiting c (false, 2, a)))
        ∗ (((ctx X κ c ∗ owing c 0) ∗ every (fun a => iprop(waited c (false, 0, a) ∗ waited c (false, 2, a)
            ∗ sendPay X 0 c a ∗ sendPay X 2 c a))) -∗ K ⟨⟩))
      ⊢ run c (each items fun a => do
          waitS xM oM cM cc0_scratch1 0 c a
          waitS xM oM cM cc0_scratch1 2 c a) K :=
  loop_run c (fun _ => iprop(ctx X κ c ∗ owing c 0)) _ _ _ (fun a l K => by
    unfold run
    simp only [wp_bind]
    iintro ⟨⟨#HC, HO⟩, ⟨Hw, Hv⟩, HK⟩
    iapply (waitS_run X κ c 0 a 0 (above_zero _) _)
    isplitr; · iexact HC
    isplitl [Hw]; · iexact Hw
    isplitl [HO]; · iexact HO
    iintro ⟨HO, Hw, Hc⟩
    iapply (waitS_run X κ c 2 a 0 (above_zero _) _)
    isplitr; · iexact HC
    isplitl [Hv]; · iexact Hv
    isplitl [HO]; · iexact HO
    iintro ⟨HO, Hv, Ho⟩
    iapply HK
    isplitl [HO]
    · isplitr; · iexact HC
      iexact HO
    isplitl [Hw]; · iexact Hw
    isplitl [Hv]; · iexact Hv
    isplitl [Hc]; · iexact Hc
    iexact Ho) K

/-- What the loops use: the chunks of the device's buffers, the places granted, the duties, the rights to wait. -/
def loopsPre (c : Dev nD) : sProp 𝕄 :=
  iprop(every (fun a => sendPay X 0 c a) ∗ every (fun a => ptX c (part c (false, a)) (X c))
    ∗ every (fun a => iprop(∃ f, ptO c (part c (false, a)) f))
    ∗ (every (fun a => grant 0 c a) ∗ every (fun a => grant 1 c a) ∗ every (fun a => grant 2 c a))
    ∗ (every (fun a => toks 0 c a) ∗ every (fun a => toks 1 c a) ∗ every (fun a => toks 2 c a))
    ∗ (every (fun a => waiting c (true, 0, a)) ∗ every (fun a => waiting c (true, 1, a)) ∗ every (fun a => waiting c (true, 2, a)))
    ∗ (every (fun a => atPos ER (snd 0 c a) 0 ∅ 0) ∗ every (fun a => atPos ER (snd 1 c a) 0 ∅ 0)
      ∗ every (fun a => atPos ER (snd 2 c a) 0 ∅ 0)))

/-- What they leave. -/
def loopsPost (c : Dev nD) : sProp 𝕄 :=
  iprop((every (fun a => ptX c (part c (false, a)) (X c)) ∗ every (fun a => ptX c (part c (true, a)) (X c)))
    ∗ (every (fun a => ptO c (part c (false, a)) (four X c)) ∗ every (fun a => ptO c (part c (true, a)) (result X c)))
    ∗ (every (fun a => ptC c (slabRows (slab 0 a) a.1) (landed X c)) ∗ every (fun a => ptC c (slabRows (slab 1 a) a.1) (landed X c)))
    ∗ bigSep Finset.univ fun k : Key => waited c k)

theorem loops_run (κ : GSem nD τ sig → ℕ) (c : Dev nD) (K : PUnit → sProp 𝕄) :
    iprop(ctx X κ c ∗ owing c (owe3 c) ∗ loopsPre X c ∗ ((ctx X κ c ∗ owing c 0 ∗ loopsPost X c) -∗ K ⟨⟩))
      ⊢ run c (loops xM oM cM cc0_scratch1 cc0_scratch2 c) K := by
  unfold loops run loopsPre loopsPost
  rw [by_key]
  simp only [wp_bind]
  iintro ⟨HC, HO, ⟨Hgive, Hx, Ho, ⟨Hg0, Hg1, Hg2⟩, ⟨Ht0, Ht1, Ht2⟩, ⟨Hr0, Hr1, Hr2⟩, ⟨Hs0, Hs1, Hs2⟩⟩, HK⟩
  iapply (loop0 X κ c _)
  isplitl [HC HO]; · isplitl [HC] <;> iassumption
  isplitl [Hgive Hg0 Ht0]
  · iapply sep_in; isplitl [Hgive]; · iexact Hgive
    iapply sep_in; isplitl [Hg0] <;> iassumption
  iintro ⟨HS, Hc0⟩
  iapply (loop1 X κ c _)
  isplitl [HS]; · iexact HS
  isplitl [Hr0 Hx Ho Hg1 Ht1]
  · iapply sep_in; isplitl [Hr0]; · iexact Hr0
    iapply sep_in; isplitl [Hx]; · iexact Hx
    iapply sep_in; isplitl [Ho]; · iexact Ho
    iapply sep_in; isplitl [Hg1] <;> iassumption
  iintro ⟨HS, Hpost⟩
  ihave H := sep_out $$ Hpost; icases H with ⟨Hr0, H⟩
  ihave H := sep_out $$ H; icases H with ⟨Hx, H⟩
  ihave H := sep_out $$ H; icases H with ⟨Hc, Hc1⟩
  iapply (loop2 X κ c _)
  isplitl [HS]; · iexact HS
  isplitl [Hr1 Hs1 Hc1 Hg2 Ht2]
  · iapply sep_in; isplitl [Hr1]; · iexact Hr1
    iapply sep_in; isplitl [Hs1 Hc1]
    · unfold waiting
      iapply sep_in; isplitl [Hs1] <;> iassumption
    iapply sep_in; isplitl [Hg2] <;> iassumption
  iintro ⟨HS, Hpost⟩
  ihave H := sep_out $$ Hpost; icases H with ⟨Hr1, H⟩
  ihave H := sep_out $$ H; icases H with ⟨Hs1, H⟩
  ihave H := sep_out $$ H; icases H with ⟨Hd, Hc2⟩
  iapply (loop3 X κ c _)
  isplitl [HS]; · iexact HS
  isplitl [Hr2]; · iexact Hr2
  iintro ⟨HS, Hpost⟩
  ihave H := sep_out $$ Hpost; icases H with ⟨Hr2, Hoth⟩
  iapply (loop4 X κ c _)
  isplitl [HS]; · iexact HS
  isplitl [Hs0 Hc0 Hs2 Hc2]
  · unfold waiting
    iapply sep_in; isplitl [Hs0 Hc0]
    · iapply sep_in; isplitl [Hs0] <;> iassumption
    iapply sep_in; isplitl [Hs2] <;> iassumption
  iintro ⟨⟨HC, HO⟩, Hpost⟩
  ihave H := sep_out $$ Hpost; icases H with ⟨Hs0, H⟩
  ihave H := sep_out $$ H; icases H with ⟨Hs2, H⟩
  ihave H := sep_out $$ H; icases H with ⟨Hgive, Hown⟩
  iapply HK
  isplitl [HC]; · iexact HC
  isplitl [HO]; · iexact HO
  isplitl [Hx Hgive]
  · isplitl [Hx]; · iexact Hx
    iapply (every_mono fun a => send0 X c a); iexact Hgive
  isplitl [Hown Hoth]
  · isplitl [Hown]
    · iapply (every_mono fun a => send2 X c a); iexact Hown
    iapply (every_mono fun a => recv2 X c a); iexact Hoth
  isplitl [Hc Hd]; · isplitl [Hc] <;> iassumption
  isplitl [Hs0 Hs1 Hs2]
  · isplitl [Hs0]; · iexact Hs0
    isplitl [Hs1] <;> iassumption
  isplitl [Hr0]; · iexact Hr0
  isplitl [Hr1] <;> iassumption

/-! ## The whole function -/

/-- The barrier's payment to the neighbour in direction `h`, made of the places here that it sends to. -/
theorem bar_give (κ : GSem nD τ sig → ℕ) (c : Dev nD) (h : Bool) :
    iprop(ctx X κ c ∗ bigSep Finset.univ fun q : Fin 3 × Fin 4 => room q.1 c (q.2, dir q.1 h)) ⊢ barPay (nb h c) h := by
  unfold barPay
  refine bigSep_with_persistent fun q _ => ?_
  have e : tgt q.1 (nb h c) (q.2, dir q.1 h) = c := by
    rw [tgt_eq]; dsimp only; rw [dir_dir, nb_nb]
  unfold grant
  rw [e]
  iintro ⟨#HC, H⟩
  isplitl [H]; · iexact H
  iapply (ctx_key X κ c); iexact HC

omit [FloatOps F] in
theorem room_o (c : Dev nD) (a : Item) (f : cc0_stg1_0.ty.Contents (Elt F)) : ptO c (part c (true, a)) f ⊢ (room 2 c a : sProp 𝕄) := by
  unfold room; iintro H; iexists f; iexact H
omit [FloatOps F] in
theorem room_c0 (c : Dev nD) (a : Item) (f : cc0_scratch0.ty.Contents (Elt F)) :
    ptC c (slabRows (slab 0 a) a.1) f ⊢ (room 0 c a : sProp 𝕄) := by
  unfold room; iintro H; iexists f; iexact H
omit [FloatOps F] in
theorem room_c1 (c : Dev nD) (a : Item) (f : cc0_scratch0.ty.Contents (Elt F)) :
    ptC c (slabRows (slab 1 a) a.1) f ⊢ (room 1 c a : sProp 𝕄) := by
  unfold room; iintro H; iexists f; iexact H
omit [FloatOps F] in
theorem some_o (c : Dev nD) (a : Item) (f : cc0_stg1_0.ty.Contents (Elt F)) :
    ptO c (part c (false, a)) f ⊢ (iprop(∃ f, ptO c (part c (false, a)) f) : sProp 𝕄) := by
  iintro H; iexists f; iexact H

/-- What the device brings: its places in the cells, the credit for what it is owed, its duties. -/
def opened (c : Dev nD) : sProp 𝕄 :=
  iprop(atPos ER (bar c) 0 ∅ 0 ∗ cred (tallyAt (bar c) () 2) ∗ dutyTok ER (bar (nb false c)) 0 false ∗ dutyTok ER (bar (nb true c)) 0 true
    ∗ (bigSep Finset.univ fun k : Key => atPos ER (cell c k) 0 ∅ 0)
    ∗ (bigSep Finset.univ fun q : Fin 3 × Item => cred (tallyAt (rcv q.1 c q.2) () N))
    ∗ (bigSep Finset.univ fun q : Fin 3 × Item => toks q.1 c q.2))

/-- The counters of its cells, at zero. -/
def zeros (c : Dev nD) : sProp 𝕄 := iprop(semVal (bar c) 0 ∗ bigSep Finset.univ fun k : Key => semVal (cell c k) 0)

theorem close_bar (κ : GSem nD τ sig → ℕ) (c : Dev nD) :
    iprop(ctx X κ c ∗ atPos ER (bar c) (0 + 1) ∅ 0) ⊢ (|={Set.univ}=> semVal (bar c) 0 : sProp 𝕄) :=
  (sep_mono_left (ctx_inv X κ c (bar_mem c))).trans
    (Rounds.cell_close ER (Rd X) (Set.mem_univ _) id (duties_later X _))

theorem close_keys (κ : GSem nD τ sig → ℕ) (c : Dev nD) :
    iprop(ctx X κ c ∗ bigSep Finset.univ fun k : Key => waited c k)
      ⊢ (|={Set.univ}=> bigSep Finset.univ fun k : Key => semVal (cell c k) 0 : sProp 𝕄) :=
  (bigSep_with_persistent fun k _ => (sep_mono_left (ctx_inv X κ c (key_mem c k))).trans
    (Rounds.cell_close ER (Rd X) (R := 1) (Set.mem_univ _) id (duties_later X _))).trans (bigSep_fupd _ _)

theorem out_join (c : Dev nD) :
    iprop(every (fun a => ptO c (part c (false, a)) (four X c)) ∗ every (fun a => ptO c (part c (true, a)) (result X c)))
      ⊢ ptO c Finset.univ (result X c) := by
  rw [o_cut]
  refine sep_mono_left (every_mono fun a => Entails.of_eq ?_)
  exact (pointsTo_congr (result_own X c a)).symm

theorem body_run (κ : GSem nD τ sig → ℕ) (c : Dev nD) (f : cc0_stg1_0.ty.Contents (Elt F)) (g : cc0_scratch0.ty.Contents (Elt F))
    (K : PUnit → sProp 𝕄) :
    iprop(ctx X κ c ∗ opened c ∗ owing c (O₀ c) ∗ ptX c Finset.univ (X c) ∗ ptO c Finset.univ f ∗ ptC c Finset.univ g
        ∗ ((owing c 0 ∗ zeros c ∗ ptX c Finset.univ (X c) ∗ ptO c Finset.univ (result X c)
            ∗ ptC c Finset.univ (landed X c)) -∗ K ⟨⟩))
      ⊢ run c (text xM oM cM cc0_scratch1 cc0_scratch2) K := by
  rw [x_cut c (X c), o_cut c f, c_cut c g]
  unfold text run opened owing
  simp only [wp_bind, Prog.lift, wp_deviceId]
  unfold semSignalWord semWaitWord
  iintro ⟨#HC, ⟨HatB, HcB, HtF, HtT, Hat, Hcr, Htk⟩, ⟨%W, HO⟩, ⟨Hxo, Hxg⟩, ⟨Hoo, Hog⟩, ⟨Hc0, Hc1⟩, HK⟩
  rw [wp_ret]
  imodintro
  ihave Hrooms := (show iprop(every (fun a => ptC c (slabRows (slab 0 a) a.1) g) ∗ every (fun a => ptC c (slabRows (slab 1 a) a.1) g)
      ∗ every (fun a => ptO c (part c (true, a)) f))
      ⊢ (bigSep Finset.univ fun q : Fin 3 × Item => (room q.1 c q.2 : sProp 𝕄)) from by
    rw [by_exchange]
    exact BI.sep_mono (every_mono fun a => room_c0 c a g) (BI.sep_mono (every_mono fun a => room_c1 c a g)
      (every_mono fun a => room_o c a f))) $$ [Hc0 Hc1 Hog]
  · isplitl [Hc0]; · iexact Hc0
    isplitl [Hc1] <;> iassumption
  ihave Hrooms := (Entails.of_eq ((by_direction (fun q : Fin 3 × Item => (room q.1 c q.2 : sProp 𝕄))).trans (bool_sep _))) $$ Hrooms
  icases Hrooms with ⟨HrF, HrT⟩
  iapply (Rounds.wp_signal 𝒱₀ ER (Rd X) (c : Thread nD τ) none (dst := (nb false c : Thread nD τ)) (sem := barSem) (r := 0) (d := false)
      (κ := κ (bar (nb false c))) (Finset.mem_univ _) rfl () (owe3 c + tallyAt (bar (nb true c)) () 1) rfl) $$ [HO HtF HrF]
  · isplitr; · iapply (ctx_inv X κ c (bar_mem _)); iexact HC
    isplitl [HO]; · iexact HO
    isplitl [HtF]; · iexact HtF
    isplitl [HrF]
    · iapply ((bar_give X κ c false).trans (Entails.of_eq (show barPay (nb false c) false = (Rd X).payload (bar (nb false c)) 0 false from rfl))); isplitr; · iexact HC
      iexact HrF
    iapply (ctx_bar X κ c); iexact HC
  iintro HO
  rw [wp_ret]
  imodintro
  iapply (Rounds.wp_signal 𝒱₀ ER (Rd X) (c : Thread nD τ) none (dst := (nb true c : Thread nD τ)) (sem := barSem) (r := 0) (d := true)
      (κ := κ (bar (nb true c))) (Finset.mem_univ _) rfl () (owe3 c) rfl) $$ [HO HtT HrT]
  · isplitr; · iapply (ctx_inv X κ c (bar_mem _)); iexact HC
    isplitl [HO]; · iexact HO
    isplitl [HtT]; · iexact HtT
    isplitl [HrT]
    · iapply ((bar_give X κ c true).trans (Entails.of_eq (show barPay (nb true c) true = (Rd X).payload (bar (nb true c)) 0 true from rfl))); isplitr; · iexact HC
      iexact HrT
    iapply (ctx_bar X κ c); iexact HC
  iintro HO
  rw [wp_ret]
  imodintro
  iapply (Rounds.wp_wait_rest_token 𝒱₀ ER (Rd X) (c : Thread nD τ) none (κ := κ (bar c))
      (wpE_semWait_eq 𝒱₀ (c : Thread nD τ) none Set.univ) (Set.mem_univ _) () (O := owe3 c) (W := W) (R := 0) (m := 0) (T := ∅)
      ((Nat.zero_add _).trans (expect_bar X c).symm)) $$ [HcB HO HatB]
  · isplitr; · iapply (ctx_inv X κ c (bar_mem _)); iexact HC
    isplitl [HcB]; · iexact HcB
    isplitl [HO]; · iexact HO
    isplitr; · iapply (mayWait c (.reg barSem) (above_owe3 c)); iapply (ctx_lev X κ c); iexact HC
    iexact HatB
  iintro ⟨HO, HatB, -, Hp⟩
  rw [wp_ret]
  imodintro
  ihave Hgr := (Entails.of_eq ((rest_bar X c).trans ((by_direction (fun q : Fin 3 × Item => (grant q.1 c q.2 : sProp 𝕄))).symm.trans
    (by_exchange _)))) $$ Hp
  ihave Hcr := (Entails.of_eq (by_exchange _)) $$ Hcr
  ihave Htk := (Entails.of_eq (by_exchange _)) $$ Htk
  ihave Hat := (Entails.of_eq (by_key _)) $$ Hat
  icases Hcr with ⟨Hcr0, Hcr1, Hcr2⟩
  icases Hat with ⟨Hats, ⟨Hat0, Hat1, Hat2⟩⟩
  iapply (wp_fupd Idealize.ShloMosaic.frame _)
  iapply (loops_run X κ c _)
  isplitr; · iexact HC
  isplitl [HO]; · unfold owing; iexists _; iexact HO
  isplitl [Hxo Hxg Hoo Hgr Htk Hats Hcr0 Hcr1 Hcr2 Hat0 Hat1 Hat2]
  · unfold loopsPre
    isplitl [Hxg]; · iapply (every_mono fun a => send0' X c a); iexact Hxg
    isplitl [Hxo]; · iexact Hxo
    isplitl [Hoo]; · iapply (every_mono fun a => some_o c a f); iexact Hoo
    isplitl [Hgr]; · iexact Hgr
    isplitl [Htk]; · iexact Htk
    isplitr [Hats]
    · unfold waiting
      isplitl [Hat0 Hcr0]; · iapply sep_in; isplitl [Hat0] <;> iassumption
      isplitl [Hat1 Hcr1]; · iapply sep_in; isplitl [Hat1] <;> iassumption
      iapply sep_in; isplitl [Hat2] <;> iassumption
    iexact Hats
  iintro ⟨-, HO, HP⟩
  unfold loopsPost
  icases HP with ⟨Hx, Ho, Hc, Hk⟩
  imod (close_bar X κ c) $$ [HatB] with Hb0
  · isplitr; · iexact HC
    iexact HatB
  imod (close_keys X κ c) $$ [Hk] with Hk0
  · isplitr; · iexact HC
    iexact Hk
  imodintro
  iapply HK
  isplitl [HO]; · unfold owing; iexact HO
  isplitl [Hb0 Hk0]; · unfold zeros; isplitl [Hb0] <;> iassumption
  isplitl [Hx]; · iexact Hx
  isplitl [Ho]; · iapply (out_join X c); iexact Ho
  rw [c_cut]; iexact Hc

end Cert.KernelIdeal.AR
-- ==== Proof.Region.lean ====
/- The kernel call: what the region holds at its one point, the kernel function as its body, its cells opened and closed. -/
module

public import proofs.«01_k».proof.Proof.Body
public import proofs.«01_k».proof.Proof.Gen.KernelIdeal.Frame
public import Idealize.ShloMosaic.Lib.Pipeline.ValueKit

@[expose] public section

noncomputable section

namespace Cert.KernelIdeal.AR

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] (m : (ℓ : Loc nD τ sig) → Buf (Elt F) ℓ)

local notation "𝕄" => MT nD τ sig Unit (Elt F) ℕ UU ℕ

/-- What each device brings to the kernel: its block, as the host reshaped it. -/
def inp : Arrs F := fun c => V m c main_v1

/-! ## The region's data -/

/-- Beside the staging, before the point and after it. -/
def before_ (c : Dev nD) : sProp 𝕄 :=
  iprop(((∃ κ, ctx (inp m) κ c) ∗ opened c) ∗ (∃ g, ptC c Finset.univ g) ∗ ∃ r, prngReg c r)
def after_ (c : Dev nD) : sProp 𝕄 := iprop(zeros c ∗ (∃ g, ptC c Finset.univ g) ∗ ∃ r, prngReg c r)

def dat (c : Dev nD) : Dat τ (Elt F) Unit ℕ UU ℕ cfg0 c where
  A w := V m c (Pipeline.arrRef spec0 w)
  after w _ := match w with
    | 0 => inp m c
    | 1 => result (inp m) c
  Φ t := if t.val = 0 then before_ m c else after_ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c :=
  fun _ c => dat m c

theorem Φ_first (c : Dev nD) : (dat m c).Φ t0_0.castSucc = before_ m c := rfl
theorem Φ_last (c : Dev nD) : (dat m c).Φ (Fin.last _) = after_ c := rfl
theorem owed_first (c : Dev nD) : (dat m c).owed t0_0.castSucc = O₀ c := rfl
theorem owed_last (c : Dev nD) : (dat m c).owed (Fin.last _) = 0 := rfl

theorem owing_in (c : Dev nD) : ((dat m c).owesAt () t0_0.castSucc : sProp 𝕄) ⊢ owing c (O₀ c) := by
  unfold Dat.owesAt Pipeline.owesWithin owing
  rw [owed_first]
  iintro ⟨%W, -, H⟩
  iexists W
  iexact H

theorem owing_out (c : Dev nD) : owing c 0 ⊢ ((dat m c).owesAt () t0_0.succ : sProp 𝕄) := by
  unfold Dat.owesAt Pipeline.owesWithin owing
  rw [show (dat m c).owed t0_0.succ = 0 from rfl]
  iintro ⟨%W, H⟩
  iexists W
  isplitr
  · ipureintro; exact fun _ _ => Or.inl trivial
  iexact H

theorem staged (c : Dev nD) (d) : (dat m c).before 0 t0_0 d = inp m c := by
  unfold Dat.before
  rw [if_pos (show (cfg0.win 0).fetch t0_0 = true from rfl)]
  funext j
  show (dat m c).blockOf 0 t0_0 j = inp m c j
  unfold Dat.blockOf
  show V m c main_v1 ((win0_0.blk t0_0).view.emb j) = V m c main_v1 j
  refine congrArg (V m c main_v1) (funext fun a => Fin.ext ?_)
  fin_cases a <;> blk_simp <;> exact (congrArg (· + _) (Nat.zero_mul 1024)).trans (Nat.zero_add _)

theorem in_kept (c : Dev nD) (n : ℕ) : (dat m c).arrAt 0 n = V m c main_v1 := (dat m c).arrAt_in (0 : Fin 2) rfl n

theorem out_left (c : Dev nD) : (dat m c).arrAt 1 cfg0.N = (result (inp m) c : S1024x1024.Idx → Elt F .f32) := by
  refine (dat m c).arrAt_eq_of_after_last 1 t0_0 (by decide +kernel) _ fun j => ?_
  blk_simp
  rfl

/-! ## The body -/

theorem body (c : Dev nD) : BodyObligation (dat m c) (defs₀ (F := F)) 𝒱₀ () Set.univ := fun t => by
  rw [fin_N0 t, bigSep_W0, bigSep_W0]
  simp only [owns_whole]
  rw [Φ_first, show (dat m c).Φ t0_0.succ = after_ c from rfl]
  unfold before_
  iintro ⟨⟨⟨⟨%κ, #HC⟩, Hop⟩, ⟨%g, Hc⟩, Hr⟩, HO, ⟨%d, Hx⟩, ⟨%d', Ho⟩⟩
  rw [staged]
  ihave HO := (owing_in m c) $$ HO
  rw [show (defs₀ Proc.tc 0 (t0_0, cfg0.slots t0_0) : P F PUnit) = text xM oM cM cc0_scratch1 cc0_scratch2 from body_eq ..]
  iapply (body_run (inp m) κ c _ g _)
  isplitr; · iexact HC
  isplitl [Hop]; · iexact Hop
  isplitl [HO]; · iexact HO
  isplitl [Hx]; · iexact Hx
  isplitl [Ho]; · iexact Ho
  isplitl [Hc]; · iexact Hc
  iintro ⟨HO, Hz, Hx, Ho, Hc⟩
  unfold after_
  isplitl [Hz Hc Hr]
  · isplitl [Hz]; · iexact Hz
    isplitl [Hc]; · iexists _; iexact Hc
    iexact Hr
  isplitl [HO]; · iapply (owing_out m c); iexact HO
  isplitl [Hx]; · iexact Hx
  iexact Ho

/-! ## The kernel's own semaphores -/

abbrev osem (k : Key) : SemLoc sig := .dma (semOf k)

theorem staging_sem : ∀ (w : Fin 2) (s : Fin ((cfg0.win w).nbuf)), dec ((cfg0.win w).sem s) = none := by decide +kernel

theorem own : Pipeline.OwnSemFacts spec0 osem where
  isScoped := by decide +kernel
  inj _ _ h := semOf_inj (SemLoc.dma.inj h)
  disj k w s h := by
    have e := staging_sem w s
    rw [show (cfg0.win w).sem s = semOf k from (SemLoc.dma.inj h).symm, dec_semOf] at e
    exact nomatch e

theorem own_eq (c : Dev nD) : (Pipeline.ownSems0 osem c : sProp 𝕄) = bigSep Finset.univ fun k : Key => semVal (cell c k) 0 := rfl

/-- What the launch leaves with a device: each transfer's cell still closed. -/
def closed (c : Dev nD) : sProp 𝕄 :=
  iprop(atPos ER (bar c) 0 ∅ 0 ∗ cred (tallyAt (bar c) () 2) ∗ dutyTok ER (bar (nb false c)) 0 false ∗ dutyTok ER (bar (nb true c)) 0 true
    ∗ (bigSep Finset.univ fun k : Key => openTok ER (cell c k))
    ∗ (bigSep Finset.univ fun q : Fin 3 × Item => cred (tallyAt (rcv q.1 c q.2) () N))
    ∗ (bigSep Finset.univ fun q : Fin 3 × Item => toks q.1 c q.2))

theorem records_inv (X : Arrs F) (κ : GSem nD τ sig → ℕ) (c : Dev nD) (k : Key) : records X κ ⊢ cellInv ER (Rd X) (κ (cell c k)) (cell c k) := by
  unfold records
  iintro ⟨H, -⟩
  iapply (cells_elim X κ (key_mem c k))
  iexact H

theorem open_keys (X : Arrs F) (κ : GSem nD τ sig → ℕ) (c : Dev nD) :
    iprop(records X κ ∗ bigSep Finset.univ fun k : Key => iprop(openTok ER (cell c k) ∗ semVal (cell c k) 0))
      ⊢ (|={Set.univ}=> bigSep Finset.univ fun k : Key => iprop(atPos ER (cell c k) 0 ∅ 0 ∗ reached ER (cell c k) 0) : sProp 𝕄) :=
  (bigSep_with_persistent fun k _ => (sep_mono_left (records_inv X κ c k)).trans
    (Rounds.cell_open ER (Rd X) (Set.mem_univ _))).trans (bigSep_fupd _ _)

theorem opening (c : Dev nD) :
    iprop(((∃ κ, records (inp m) κ) ∗ closed c) ∗ Pipeline.ownSems0 osem c ∗ levAts L lv)
      ⊢ (|={Set.univ}=> iprop((∃ κ, ctx (inp m) κ c) ∗ opened c) : sProp 𝕄) := by
  rw [own_eq]
  unfold closed opened ctx
  iintro ⟨⟨⟨%κ, #HR⟩, HatB, HcB, HtF, HtT, Hop, Hcr, Htk⟩, Hs, #HL⟩
  imod (open_keys (inp m) κ c) $$ [Hop Hs] with H
  · isplitr; · iexact HR
    iapply sep_in; isplitl [Hop] <;> iassumption
  ihave H := sep_out $$ H
  icases H with ⟨Hat, #Hr⟩
  imodintro
  isplitr
  · iexists κ
    isplitr; · iexact HR
    isplitr; · iexact HL
    iexact Hr
  isplitl [HatB]; · iexact HatB
  isplitl [HcB]; · iexact HcB
  isplitl [HtF]; · iexact HtF
  isplitl [HtT]; · iexact HtT
  isplitl [Hat]; · iexact Hat
  isplitl [Hcr]; · iexact Hcr
  iexact Htk

/-! ## The buffers beside the region -/

abbrev refs : Finset (DevRef τ sig) := (StableHlo.tcRefs τ sig).filter fun b => ¬ b.isScoped
abbrev arrs : Finset (DevRef τ sig) := Pipeline.arrRefs (τ := τ) spec0

/-- A device's buffers at launch, after the host's reshape, and at the end. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) :=
  Function.update (V₁ m c) (Proc.devRef .tc main_v2) (result (inp m) c : S1024x1024.Idx → Elt F .f32)

theorem V₂_out (c : Dev nD) : V₂ m c (Proc.devRef .tc main_v2) = (result (inp m) c : S1024x1024.Idx → Elt F .f32) :=
  Function.update_self ..
theorem V₂_ne (c : Dev nD) (b : DevRef τ sig) (h : b ≠ Proc.devRef .tc main_v2) : V₂ m c b = V₁ m c b :=
  Function.update_of_ne h ..
theorem V₁_arg (c : Dev nD) : V₁ m c (Proc.devRef .tc main_arg0) = m ((c : Thread nD τ).loc main_arg0) := V_main_arg0 m c

theorem refs_held (c : Dev nD) (W : Valuation τ sig (Elt F)) :
    (StableHlo.held (c : Thread nD τ) refs W : sProp 𝕄)
      = iprop(StableHlo.held (c : Thread nD τ) arrs W ∗ StableHlo.held (c : Thread nD τ) {Proc.devRef .tc main_arg0} W) := by
  unfold StableHlo.held
  rw [show (refs : Finset (DevRef τ sig)) = arrs ∪ {Proc.devRef .tc main_arg0} from by decide, bigSep_union (by decide)]
  rfl

theorem arrs_held (c : Dev nD) (W : Valuation τ sig (Elt F)) : (StableHlo.held (c : Thread nD τ) arrs W : sProp 𝕄)
    = iprop(((c : Thread nD τ).loc main_v1 ↦{fullShare} W (Proc.devRef .tc main_v1))
      ∗ ((c : Thread nD τ).loc main_v2 ↦{fullShare} W (Proc.devRef .tc main_v2))) := by
  unfold StableHlo.held
  rw [bigSep_eq_bigSepL_of_eq [Proc.devRef .tc main_v1, Proc.devRef .tc main_v2] (by decide) (by decide)]
  rfl

/-! ## The region -/

theorem share_full (c : Dev nD) (w : Fin cfg0.W) : (dat m c).share w = fullShare := by unfold Dat.share; split <;> rfl

theorem entering (c : Dev nD) (w : Fin cfg0.W) :
    (dat m c).arrAt w 0 = V₁ m c (Proc.devRef .tc (Pipeline.arrRef spec0 w)) := rfl

theorem leaving (c : Dev nD) : ∀ w : Fin cfg0.W, (dat m c).arrAt w cfg0.N = V₂ m c (Proc.devRef .tc (Pipeline.arrRef spec0 w))
  | 0 => (in_kept m c _).trans (V₂_ne m c _ (by decide)).symm
  | 1 => (out_left m c).trans (V₂_out m c).symm

theorem going_in (c : Dev nD) :
    iprop(Pipeline.scopedRest spec0 c ∗ (∃ r, prngReg c r) ∗ StableHlo.held (c : Thread nD τ) ∅ (V₁ m c) ∗ ((∃ κ, ctx (inp m) κ c) ∗ opened c))
      ⊢ (dat m c).Φ t0_0.castSucc := by
  rw [Φ_first, scopedRest0_eq]
  unfold before_
  iintro ⟨Hs, Hp, -, H⟩
  isplitl [H]; · iexact H
  isplitl [Hs]; · iexact Hs
  iexact Hp

theorem coming_out (c : Dev nD) :
    (dat m c).Φ (Fin.last _)
      ⊢ iprop(Pipeline.scopedRest spec0 c ∗ (∃ r, prngReg c r) ∗ StableHlo.held (c : Thread nD τ) ∅ (V₂ m c)
        ∗ Pipeline.ownSems0 osem c ∗ semVal (bar c) 0) := by
  rw [Φ_last, scopedRest0_eq, own_eq, show (StableHlo.held (c : Thread nD τ) ∅ (V₂ m c) : sProp 𝕄) = BI.emp from BI.bigSep_empty]
  unfold after_ zeros
  iintro ⟨⟨Hb, Hk⟩, Hs, Hp⟩
  isplitl [Hs]; · iexact Hs
  isplitl [Hp]; · iexact Hp
  isplitr; · iempintro
  isplitl [Hk]; · iexact Hk
  iexact Hb

theorem staging_low (c : Dev nD) (w : Fin cfg0.W) (s : Fin ((cfg0.win w).nbuf)) :
    lv ((c : Thread nD τ), .dma ((cfg0.win w).sem s)) () ≤ 0 := by
  unfold lv
  dsimp only
  rw [staging_sem]

theorem owed_above (c : Dev nD) (t : Fin (cfg0.N + 1)) (g : GSem nD τ sig) (i : Unit) (h : 0 < (dat m c).owed t g i) :
    i ∈ L g ∧ 0 < lv g i := by
  rw [show (dat m c).owed t = if t.val = 0 then O₀ c else 0 from rfl] at h
  split at h
  · exact above_O₀ c g i h
  · exact absurd h (Nat.lt_irrefl 0)

theorem kit : Pipeline.PLaunchFacts (nD := nD) (τ := τ) (pcfgs (F := F)) 0 := launch0.toP

/-- What the launch leaves for the region. -/
def kept (c : Dev nD) : sProp 𝕄 := iprop((∃ κ, records (inp m) κ) ∗ closed c)

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem own
    ∅ {Proc.devRef .tc main_arg0} (Finset.empty_subset _) kit rfl (fun c => (body m c).loose)
    (fun _ => 0) O₀ (fun c => (zero_add (O₀ c)).symm) (owed_last m) (fun _ => rfl) (share_full m)
    (V₁ m) (V₂ m) (fun c b hb => V₂_ne m c b fun e => absurd (e ▸ (Finset.mem_sdiff.mp hb).1) (by decide))
    (kept m) (fun c => semVal (bar c) 0) (fun c => iprop((∃ κ, ctx (inp m) κ c) ∗ opened c)) (fun c => semVal (bar c) 0)
    (opening m) (going_in m) (coming_out m) (fun _ => fupd_intro)
    (fun _ => 0)
    ⟨fun _ _ _ => by rw [L_tc]; exact Finset.mem_singleton_self _, staging_low, owed_above m⟩
    (fun _ => iprop(emp))
    (entering m) (leaving m)

theorem region_pre (c : Dev nD) :
    iprop(StableHlo.held (c : Thread nD τ) refs (V₁ m c) ∗ kept m c ∗ (∃ r, prngReg c r) ∗ owing c (O₀ c)) ⊢ (region m).pre c := by
  show _ ⊢ iprop(StableHlo.held (c : Thread nD τ) arrs (V₁ m c) ∗ (∃ r, prngReg c r)
    ∗ (StableHlo.held (c : Thread nD τ) {Proc.devRef .tc main_arg0} (V₁ m c) ∗ emp) ∗ kept m c ∗ ∃ W, owes (c : Thread nD τ) (0 + O₀ c) W)
  rw [refs_held, zero_add]
  unfold owing
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- A device's buffers and its barrier's counter at the end. -/
def done (c : Dev nD) : sProp 𝕄 :=
  iprop((((c : Thread nD τ).loc main_arg0) ↦{fullShare} m ((c : Thread nD τ).loc main_arg0))
    ∗ (((c : Thread nD τ).loc main_v2) ↦{fullShare} (result (inp m) c : S1024x1024.Idx → Elt F .f32)) ∗ semVal (bar c) 0)

theorem region_post (c : Dev nD) :
    (region m).post c ⊢ iprop(done m c ∗ ∃ W, owes (c : Thread nD τ) (0 : CellTallies nD τ sig Unit) W) := by
  show iprop(StableHlo.held (c : Thread nD τ) arrs (V₂ m c) ∗ (∃ r, prngReg c r)
    ∗ (StableHlo.held (c : Thread nD τ) {Proc.devRef .tc main_arg0} (V₂ m c) ∗ emp) ∗ semVal (bar c) 0
    ∗ ∃ W, owes (c : Thread nD τ) (0 : CellTallies nD τ sig Unit) W) ⊢ _
  rw [arrs_held, show (StableHlo.held (c : Thread nD τ) {Proc.devRef .tc main_arg0} (V₂ m c) : sProp 𝕄)
    = (((c : Thread nD τ).loc main_arg0) ↦{fullShare} V₂ m c (Proc.devRef .tc main_arg0)) from BI.bigSep_singleton ..,
    V₂_out, V₂_ne m c _ (by decide), V₂_ne m c _ (by decide), V₁_arg]
  unfold done
  iintro ⟨⟨-, Ho⟩, -, ⟨Ha, -⟩, Hb, HO⟩
  isplitr [HO]
  · isplitl [Ha]; · iexact Ha
    isplitl [Ho] <;> iassumption
  iexact HO

end Cert.KernelIdeal.AR
-- ==== Proof.Launch.lean ====
/- The launch: what every device is dealt, and the run of the whole program. -/
module

public import proofs.«01_k».proof.Proof.Region

@[expose] public section

noncomputable section

namespace Cert.KernelIdeal.AR

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

local notation "𝕄" => MT nD τ sig Unit (Elt F) ℕ UU ℕ

/-! ## Credits -/

omit [FloatOps F] in
/-- Every device owing exchange `p`'s payments, each device is due its own. -/
theorem cred_owe (p : Fin 3) (B : Dev nD → CellTallies nD τ sig Unit) (c : Dev nD) : ∀ l : List Item,
    (Pipeline.launchCred (fun d => owe d p l (B d)) c : sProp 𝕄)
      ⊢ iprop(bigSepL l (fun a => cred (tallyAt (rcv p c a) () N)) ∗ Pipeline.launchCred B c)
  | [] => by
    rw [bigSepL_nil]
    iintro H
    isplitr; · iempintro
    iexact H
  | a :: l => by
    rw [bigSepL_cons', show (fun d => owe d p (a :: l) (B d)) = fun d => owe d p l (B d) + tallyAt (rcv p (tgt p d a) a) () N from rfl,
      Pipeline.launchCred_add]
    have ih := cred_owe p B c l
    have h1 : (Pipeline.launchCred (fun d => tallyAt (rcv p (tgt p d a) a) () N) c : sProp 𝕄) ⊢ cred (tallyAt (rcv p c a) () N) :=
      Pipeline.launchCred_tallyAt (.dma (semOf (true, p, a))) (fun d => tgt p d a) (fun d => tgt p d a)
        (fun d => tgt_tgt p d a) (fun d => tgt_tgt p d a) () N c
    iintro ⟨Hl, Ha⟩
    ihave Hl := ih $$ Hl
    icases Hl with ⟨Hl, HB⟩
    ihave Ha := h1 $$ Ha
    isplitr [HB]
    · isplitl [Ha] <;> iassumption
    iexact HB

omit [FloatOps F] in
theorem cred_bar (h : Bool) (c : Dev nD) :
    (Pipeline.launchCred (fun d => tallyAt (bar (nb h d)) () 1) c : sProp 𝕄) ⊢ cred (tallyAt (bar c) () 1) :=
  Pipeline.launchCred_tallyAt (.reg barSem) (nb h) (nb h) (nb_nb h) (nb_nb h) () 1 c

omit [FloatOps F] in
theorem creds (c : Dev nD) : (Pipeline.launchCred O₀ c : sProp 𝕄)
    ⊢ iprop(cred (tallyAt (bar c) () 2) ∗ bigSep Finset.univ fun q : Fin 3 × Item => cred (tallyAt (rcv q.1 c q.2) () N)) := by
  rw [by_exchange]
  unfold every
  rw [items_sep, items_sep, items_sep,
    show (O₀ : Dev nD → CellTallies nD τ sig Unit) = fun d => (owe d 0 items (owe d 1 items (owe d 2 items 0)) + tallyAt (bar (nb true d)) () 1) + tallyAt (bar (nb false d)) () 1 from rfl,
    Pipeline.launchCred_add, Pipeline.launchCred_add]
  have h2 : iprop(cred (tallyAt (bar c) () 1) ∗ cred (tallyAt (bar c) () 1)) ⊢ (cred (tallyAt (bar c) () 2) : sProp 𝕄) := by
    rw [show (tallyAt (bar c) () 2 : CellTallies nD τ sig Unit) = tallyAt (bar c) () 1 + tallyAt (bar c) () 1 from (tallyAt_add (bar c) () 1 1).symm]
    exact (cred_add _ _).2
  iintro ⟨⟨H, Ht⟩, Hf⟩
  ihave Ht := (cred_bar true c) $$ Ht
  ihave Hf := (cred_bar false c) $$ Hf
  ihave H := (cred_owe 0 (fun d => owe d 1 items (owe d 2 items 0)) c items) $$ H
  icases H with ⟨H0, H⟩
  ihave H := (cred_owe 1 (fun d => owe d 2 items 0) c items) $$ H
  icases H with ⟨H1, H⟩
  ihave H := (cred_owe 2 (fun _ => 0) c items) $$ H
  icases H with ⟨H2, -⟩
  isplitl [Ht Hf]
  · iapply h2; isplitl [Ht] <;> iassumption
  isplitl [H0]; · iexact H0
  isplitl [H1] <;> iassumption

/-! ## Duties -/

/-- Every duty of the protocol, by the device whose cell it is. -/
def duties : Finset (GSem nD τ sig × ℕ × Bool) :=
  Finset.univ.map ⟨fun q : Dev nD × (Bool ⊕ Key) => (match q.2 with | .inl h => (bar q.1, 0, h) | .inr k => (cell q.1 k, 0, false)), by
    rintro ⟨c, a⟩ ⟨c', a'⟩ h
    have hc : c = c' := by
      rcases a with a | a <;> rcases a' with a' | a' <;> exact congrArg (fun t : GSem nD τ sig × ℕ × Bool => t.1.1.1) h
    subst hc
    rcases a with a | a <;> rcases a' with a' | a'
    · exact congrArg (fun b => (c, Sum.inl b)) (congrArg (fun t : GSem nD τ sig × ℕ × Bool => t.2.2) h)
    · exact nomatch congrArg (fun t : GSem nD τ sig × ℕ × Bool => t.1.2) h
    · exact nomatch congrArg (fun t : GSem nD τ sig × ℕ × Bool => t.1.2) h
    · exact congrArg (fun b => (c, Sum.inr b)) (semOf_inj (SemLoc.dma.inj (congrArg (fun t : GSem nD τ sig × ℕ × Bool => t.1.2) h)))⟩

omit [FloatOps F] in
theorem duties_eq : bigSep duties (fun x => (dutyTok ER x.1 x.2.1 x.2.2 : sProp 𝕄))
    = bigSep Finset.univ fun c : Dev nD => iprop((dutyTok ER (bar c) 0 false ∗ dutyTok ER (bar c) 0 true)
        ∗ (bigSep Finset.univ fun q : Fin 3 × Item => dutyTok ER (snd q.1 c q.2) 0 false)
        ∗ (bigSep Finset.univ fun q : Fin 3 × Item => dutyTok ER (rcv q.1 c q.2) 0 false)) := by
  unfold duties
  rw [bigSep_map, bigSep_univ_prod]
  refine bigSep_congr fun c _ => ?_
  rw [bigSep_univ_sum, bool_sep, bigSep_univ_prod (Φ := fun k : Key => _), bool_sep]
  rfl

/-- The neighbour in direction `h`, and a transfer's other end, as bijections. -/
def swap (h : Bool) : Dev nD ≃ Dev nD := ⟨nb h, nb h, nb_nb h, nb_nb h⟩
def other : Dev nD × (Fin 3 × Item) ≃ Dev nD × (Fin 3 × Item) where
  toFun q := (tgt q.2.1 q.1 q.2.2, q.2)
  invFun q := (tgt q.2.1 q.1 q.2.2, q.2)
  left_inv q := by dsimp only; rw [tgt_tgt]
  right_inv q := by dsimp only; rw [tgt_tgt]

omit [FloatOps F] in
/-- Each duty goes to the device that pays it. -/
theorem deal : bigSep duties (fun x => (dutyTok ER x.1 x.2.1 x.2.2 : sProp 𝕄))
    ⊢ bigSep Finset.univ fun c : Dev nD => iprop((dutyTok ER (bar (nb false c)) 0 false ∗ dutyTok ER (bar (nb true c)) 0 true)
        ∗ bigSep Finset.univ fun q : Fin 3 × Item => toks q.1 c q.2) := by
  have h1 (h : Bool) : (bigSep Finset.univ fun c : Dev nD => (dutyTok ER (bar c) 0 h : sProp 𝕄))
      = bigSep Finset.univ fun c : Dev nD => dutyTok ER (bar (nb h c)) 0 h := bigSep_univ_equiv (swap h) _
  have h2 : (bigSep Finset.univ fun c : Dev nD => bigSep Finset.univ fun q : Fin 3 × Item => (dutyTok ER (rcv q.1 c q.2) 0 false : sProp 𝕄))
      = bigSep Finset.univ fun c : Dev nD => bigSep Finset.univ fun q : Fin 3 × Item => dutyTok ER (rcv q.1 (tgt q.1 c q.2) q.2) 0 false := by
    rw [← bigSep_univ_prod (Φ := fun q : Dev nD × (Fin 3 × Item) => (dutyTok ER (rcv q.2.1 q.1 q.2.2) 0 false : sProp 𝕄)),
      bigSep_univ_equiv other, bigSep_univ_prod]
    rfl
  rw [duties_eq]
  unfold toks
  simp only [bigSep_sep']
  rw [h1, h1, h2]

/-! ## The launch's element -/

omit [FloatOps F] in
theorem apart : Disjoint (barCells : Finset (GSem nD τ sig)) keyCells :=
  Finset.disjoint_left.mpr fun g h h' => by
    obtain ⟨c, -, rfl⟩ := Finset.mem_map.mp h
    obtain ⟨q, -, e⟩ := Finset.mem_map.mp h'
    exact nomatch congrArg Prod.snd e

def share : URounds (GSem nD τ sig) Bool := launchOf barCells keyCells duties

def u₀ : UU :=
  (initOf (Pipeline.cells (Pipeline.pin (pcfgs (F := F)) adm) cellOf_inj)
    (Pipeline.launchToks (Pipeline.pin (pcfgs (F := F)) adm) cellOf_inj), share)

/-- The protocol's element enters with the first device. -/
def G (c : Dev nD) : sProp 𝕄 := if c = 0 then BI.own (ER share) else BI.emp

omit [FloatOps F] in
theorem G_all : bigSep Finset.univ (G (F := F)) = BI.own (ER share) := by
  rw [bigSep_univ_eq_bigSepL [(0 : Dev nD), 1, 2, 3] (by decide) (by decide)]
  simp only [bigSepL_cons', bigSepL_nil]
  unfold G
  rw [if_pos rfl, if_neg (by decide), if_neg (by decide), if_neg (by decide)]
  repeat rw [show (iprop(BI.emp ∗ BI.emp) : sProp 𝕄) = BI.emp from BI.equiv_iff.mp sep_emp]
  exact BI.equiv_iff.mp sep_emp

/-! ## Dealing -/

omit [FloatOps F] in
theorem bufs_in (c : Dev nD) (W : Valuation τ sig (Elt F)) :
    (unscopedBufs c (fun b => W b) : sProp 𝕄) = StableHlo.held (c : Thread nD τ) refs W := by
  unfold unscopedBufs StableHlo.held refs StableHlo.tcRefs
  rw [Finset.filter_map, BI.bigSep_map]
  rfl

omit [FloatOps F] in
theorem sems_in (c : Dev nD) : (unscopedSems0 c : sProp 𝕄) = semVal (bar c) 0 := by
  unfold unscopedSems0
  rw [show (Finset.univ.filter fun sm : SemLoc sig => ¬ sm.isScoped .tc) = {SemLoc.reg barSem} from by decide, BI.bigSep_singleton]

/-- What passes the reshape by. -/
def beside (c : Dev nD) : sProp 𝕄 := iprop(kept m c ∗ (∃ r, prngReg c r) ∗ owing c (O₀ c))

def begun (c : Dev nD) : sProp 𝕄 := iprop(StableHlo.held (c : Thread nD τ) refs (V₀ m c) ∗ beside m c)

/-- The parts of a device's start that memory and the counters give, and those that the protocol gives. -/
def given (c : Dev nD) : sProp 𝕄 :=
  iprop(StableHlo.held (c : Thread nD τ) refs (V₀ m c) ∗ owing c (O₀ c)
    ∗ (cred (tallyAt (bar c) () 2) ∗ bigSep Finset.univ fun q : Fin 3 × Item => cred (tallyAt (rcv q.1 c q.2) () N))
    ∗ ∃ r, prngReg c r)

def dealt (c : Dev nD) : sProp 𝕄 :=
  iprop(atPos ER (bar c) 0 ∅ 0 ∗ (bigSep Finset.univ fun k : Key => openTok ER (cell c k))
    ∗ (dutyTok ER (bar (nb false c)) 0 false ∗ dutyTok ER (bar (nb true c)) 0 true)
    ∗ bigSep Finset.univ fun q : Fin 3 × Item => toks q.1 c q.2)

theorem begun_of (κ : GSem nD τ sig → ℕ) (c : Dev nD) : iprop(records (inp m) κ ∗ (given m c ∗ dealt c)) ⊢ begun m c := by
  unfold given dealt begun beside kept closed
  iintro ⟨#HR, ⟨Hh, HO, ⟨Hb, Hc⟩, Hp⟩, Hat, Hop, ⟨HtF, HtT⟩, Ht⟩
  isplitl [Hh]; · iexact Hh
  isplitr [Hp HO]
  · isplitr; · iexists κ; iexact HR
    isplitl [Hat]; · iexact Hat
    isplitl [Hb]; · iexact Hb
    isplitl [HtF]; · iexact HtF
    isplitl [HtT]; · iexact HtT
    isplitl [Hop]; · iexact Hop
    isplitl [Hc] <;> iassumption
  isplitl [Hp] <;> iassumption

/-- A device's share of the launch. -/
def launched (c : Dev nD) : sProp 𝕄 :=
  iprop(unscopedBufs c (fun b => m ((c : Thread nD τ).loc b)) ∗ unscopedSems0 c ∗ owes (c : Thread nD τ) (O₀ c) ∅
    ∗ Pipeline.launchCred O₀ c ∗ prngReg c (ρ c) ∗ G c)

omit [FloatOps F] in
theorem launched_split (c : Dev nD) : launched m ρ c ⊢ iprop(given m c ∗ (semVal (bar c) 0 ∗ G c)) := by
  unfold launched given owing
  rw [show unscopedBufs c (fun b => m ((c : Thread nD τ).loc b)) = StableHlo.held (c : Thread nD τ) refs (V₀ m c) from bufs_in c (V₀ m c),
    sems_in]
  iintro ⟨Hh, Hs, HO, Hc, Hp, HG⟩
  ihave Hc := (creds c) $$ Hc
  isplitr [Hs HG]
  · isplitl [Hh]; · iexact Hh
    isplitl [HO]; · iexists ∅; iexact HO
    isplitl [Hc]; · iexact Hc
    iexists (ρ c); iexact Hp
  isplitl [Hs] <;> iassumption

omit [FloatOps F] in
theorem launched_all : (bigSep Finset.univ (launched m ρ))
    ⊢ iprop(bigSep Finset.univ (given m) ∗ (bigSep barCells (fun g => semVal g 0) ∗ BI.own (ER share))) := by
  rw [← G_all, bigSep_map, ← bigSep_sep', ← bigSep_sep']
  exact bigSep_mono fun c _ => launched_split m ρ c

omit [FloatOps F] in
/-- The funded cells and duties, device by device. -/
theorem dealt_all : iprop(bigSep barCells (fun g => (atPos ER g 0 ∅ 0 : sProp 𝕄)) ∗ bigSep keyCells (fun g => openTok ER g)
      ∗ bigSep duties fun x => dutyTok ER x.1 x.2.1 x.2.2) ⊢ bigSep Finset.univ (dealt (F := F)) := by
  unfold dealt
  rw [bigSep_map, bigSep_map, bigSep_univ_prod]
  iintro ⟨Ha, Ho, Ht⟩
  iapply sep_in; isplitl [Ha]; · iexact Ha
  iapply sep_in; isplitl [Ho]; · iexact Ho
  iapply deal; iexact Ht

theorem init : iprop(bigSep Finset.univ (launched m ρ) ∗ levAts L lv) ⊢ (|={Set.univ}=> bigSep Finset.univ (begun m) : sProp 𝕄) := by
  iintro ⟨H, -⟩
  ihave H := (launched_all m ρ) $$ H
  icases H with ⟨HB, Hv, Hu⟩
  imod (Rounds.fund_launch ER (Rd (inp m)) apart (fun g _ h => h) duties) $$ [Hv Hu] with ⟨%κ, -, #Hinv, #Hr, Hat, Hop, Ht⟩
  · isplitl [Hv]; · iexact Hv
    unfold share; iexact Hu
  imodintro
  iapply (bigSep_with_persistent (R := records (inp m) κ) (Φ := fun c => iprop(given m c ∗ dealt c)) fun c _ => begun_of m κ c)
  isplitr
  · unfold records
    isplitr; · iexact Hinv
    iexact Hr
  iapply sep_in; isplitl [HB]; · iexact HB
  iapply dealt_all
  isplitl [Hat]; · iexact Hat
  isplitl [Hop] <;> iassumption

/-! ## The run -/

def host : Pipeline.HostSeg (Name := ℕ) (U := UU) (pcfgs (F := F)) defs₀ 𝒱₀ L lv :=
  Pipeline.HostSeg.ofOps _ _ _ _ _ refs hostOps0
    (fun op h => by obtain rfl := List.mem_singleton.mp h; exact (show ({Proc.devRef .tc main_arg0, Proc.devRef .tc main_v1} : Finset (DevRef τ sig)) ⊆ refs by decide))
    (fun op h => by obtain rfl := List.mem_singleton.mp h; rfl) (V₀ m) (beside m)

abbrev segs : List (Pipeline.Seg (pcfgs (F := F)) adm (pdats m) () defs₀ 𝒱₀ L lv) := [.host (host m), .region (region m)]

theorem only_bar : ∀ sm : SemLoc sig, sm.isScoped .tc = false → sm = .reg barSem := by decide

set_option backward.isDefEq.respectTransparency.types false in
/-- Every run ends with each device's argument unchanged, its result the sums of its schedule, and every counter zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = (result (inp m) c : S1024x1024.Idx → Elt F .f32)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (region m) rfl c])
    (by simp only [segs, Pipeline.Seg.pipes_host, Pipeline.Seg.pipes_region, Pipeline.Seg.pipes_nil]; decide)
    (O₀ := O₀) (hL := L_of_ne) (G := G) (u₀ := u₀)
    (hu₀ := by
      rw [G_all]
      exact (ownU_pair _ _).trans fupd_intro)
    (T₀ := begun m) (Tₙ := done m)
    (hch := ⟨fun c => .rfl, region_pre m, region_post m⟩)
    (hinit := init m ρ)
    (QY := fun c s => (s.mem ((c : Thread nD τ).loc main_arg0) = m ((c : Thread nD τ).loc main_arg0)
      ∧ s.mem ((c : Thread nD τ).loc main_v2) = (result (inp m) c : S1024x1024.Idx → Elt F .f32)) ∧ s.sem (bar c) = 0)
    (hfin := fun c s' => by
      unfold done
      iintro ⟨⟨Ha, Ho, Hb⟩, HS⟩
      icombine HS Ha gives %ha
      icombine HS Ho gives %ho
      icombine HS Hb gives %hb
      imodintro
      isplitr
      · ipureintro
        exact ⟨⟨Buf.eq_of_forall_mem_univ ha, Buf.eq_of_forall_mem_univ ho⟩, by simpa using hb⟩
      iexact HS)
    (hQ := fun s h hs => ⟨fun c => (h c).1, sem_eq_zero hs fun c sm hsm => by
      rw [only_bar sm hsm]; exact (h c).2⟩)

end Cert.KernelIdeal.AR
-- ==== Proof.Value.lean ====
/- At the ideal values every device's result is the sum of the four blocks, which is what the reference computes. -/
module

public import proofs.«01_k».proof.Proof.Launch
public import proofs.«01_k».proof.Proof.Gen.ReferenceIdeal.Run
public import Idealize.ShloMosaic.Lib.Pipeline.Value
public import Idealize.ShloMosaic.Lib.Pointwise.Reduce
public import Idealize.ShloMosaic.Lib.Layout

@[expose] public section

noncomputable section

namespace Cert.KernelIdeal.AR

open Cert.KernelIdeal.Gen
open Idealize.ShloMosaic
open Idealize.ShloMosaic.TcCoe
open Idealize.SL.Sem

/-! ## The kernel's sums -/

/-- A device, its neighbours and the device across are all four. -/
theorem all_four : ∀ (h : Bool) (d : Dev nD), (Finset.univ : Finset (Dev nD)) = {d, nb h d, nb (!h) d, nb h (nb (!h) d)}
    ∧ d ∉ ({nb h d, nb (!h) d, nb h (nb (!h) d)} : Finset (Dev nD)) ∧ nb h d ∉ ({nb (!h) d, nb h (nb (!h) d)} : Finset (Dev nD))
    ∧ nb (!h) d ∉ ({nb h (nb (!h) d)} : Finset (Dev nD)) := by decide +kernel

theorem four_eq (X : Arrs Ideal) (d : Dev nD) (i : S1024x1024.Idx) : four X d i = ((∑ e : Dev nD, (X e i : EReal)) : EReal) := by
  obtain ⟨h0, h1, h2, h3⟩ := all_four (half i) d
  unfold four two
  rw [h0, Finset.sum_insert h1, Finset.sum_insert h2, Finset.sum_insert h3, Finset.sum_singleton]
  exact add_assoc (X d i : EReal) (X (nb (half i) d) i) _

theorem result_eq (X : Arrs Ideal) (d : Dev nD) (i : S1024x1024.Idx) : result X d i = ((∑ e : Dev nD, (X e i : EReal)) : EReal) := by
  unfold result
  split
  · exact four_eq X d i
  · exact four_eq X _ i

/-! ## The blocks of the whole array -/

abbrev Whole : Shape := ⟨4, ![2, 2, 1024, 1024]⟩

/-- Where the whole array holds device `d`'s element at `i`. -/
def place4 (d : Dev nD) (i : S1024x1024.Idx) : Whole.Idx :=
  ix4 (⟨d.val / 2, by have : d.val < 4 := d.isLt; omega⟩ : Fin 2) (⟨d.val % 2, Nat.mod_lt _ (by decide)⟩ : Fin 2)
    (⟨(i 0).val, (i 0).isLt⟩ : Fin 1024) (⟨(i 1).val, (i 1).isLt⟩ : Fin 1024)

theorem place4_inj (i : S1024x1024.Idx) : Function.Injective fun d : Dev nD => place4 d i := fun d d' e => by
  have h0 : d.val / 2 = d'.val / 2 := congrArg Fin.val (congrFun e 0)
  have h1 : d.val % 2 = d'.val % 2 := congrArg Fin.val (congrFun e 1)
  exact Fin.ext (by omega)

/-- The places the reference sums into `i`. -/
theorem fiber (h : Whole.ReducesTo [0, 1] S1024x1024) (i : S1024x1024.Idx) (k : Whole.Idx) :
    h.drop k = i ↔ ∃ d : Dev nD, place4 d i = k := by
  constructor
  · intro e
    have h0 : (k 0).val < 2 := (k 0).isLt
    have h1 : (k 1).val < 2 := (k 1).isLt
    refine ⟨(⟨2 * (k 0).val + (k 1).val, by omega⟩ : Fin 4), funext fun a => Fin.ext ?_⟩
    match a with
    | ⟨0, _⟩ => show (2 * (k 0).val + (k 1).val) / 2 = (k 0).val; omega
    | ⟨1, _⟩ => show (2 * (k 0).val + (k 1).val) % 2 = (k 1).val; omega
    | ⟨2, _⟩ => exact (congrArg Fin.val (congrFun e 0)).symm
    | ⟨3, _⟩ => exact (congrArg Fin.val (congrFun e 1)).symm
  · rintro ⟨d, rfl⟩
    funext b
    match b with
    | ⟨0, _⟩ => rfl
    | ⟨1, _⟩ => rfl

/-- Row and column of a device's block, in the shape the argument has. -/
def unit4 (i : S1024x1024.Idx) : S1x1x1024x1024.Idx :=
  ix4 (0 : Fin 1) (0 : Fin 1) (⟨(i 0).val, (i 0).isLt⟩ : Fin 1024) (⟨(i 1).val, (i 1).isLt⟩ : Fin 1024)

/-- The host's reshape drops the two unit axes. -/
theorem inp_eq {F : FTy → Type} [FloatOps F] (m : (ℓ : Loc nD τ sig) → Buf (Elt F) ℓ) (d : Dev nD) (i : S1024x1024.Idx) :
    inp m d i = m ((d : Thread nD τ).loc main_arg0) (unit4 i) := by
  have e : V m d main_v1 = shapeCast S1024x1024 (m ((d : Thread nD τ).loc main_arg0)) shapeCasts_S1x1x1024x1024_S1024x1024 := by
    show StableHlo.after hostOps0 _ _ = _
    after_results
    rfl
  unfold inp
  rw [e]
  refine shapeCast_apply _ _ i (unit4 i) ?_
  rw [Shape.rowMajor_val_four, Shape.rowMajor_val_two]
  show ((0 * 1 + 0) * 1024 + (i 0).val) * 1024 + (i 1).val = (i 0).val * 1024 + (i 1).val
  omega

/-- Device `d`'s block of an array the two mesh axes cut. -/
abbrev block {α : Type} (v : Whole.Idx → α) (d : Dev nD) : S1x1x1024x1024.Idx → α :=
  Layout.blockN ⟨4, ![1, 1, 1024, 1024]⟩ ⟨4, ![2, 2, 1024, 1024]⟩ (Layout.meshBlock [2, 2] ![[0], [1], [], []] d) v

theorem block_eq : ∀ d : Dev nD, Layout.meshLin [2, 2] d.val [0] = d.val / 2 ∧ Layout.meshLin [2, 2] d.val [1] = d.val % 2 := by
  decide +kernel

theorem placed {α : Type} (v : Whole.Idx → α) (d : Dev nD) (i : S1024x1024.Idx) :
    block v d (unit4 i) = v (place4 d i) := by
  refine congrArg v (funext fun a => Fin.ext ?_)
  match a with
  | ⟨0, _⟩ => exact (congrArg (fun n => n * 1 + 0) (block_eq d).1).trans (by show d.val / 2 * 1 + 0 = d.val / 2; omega)
  | ⟨1, _⟩ => exact (congrArg (fun n => n * 1 + 0) (block_eq d).2).trans (by show d.val % 2 * 1 + 0 = d.val % 2; omega)
  | ⟨2, _⟩ => show 0 * 1024 + (i 0).val = (i 0).val; omega
  | ⟨3, _⟩ => show 0 * 1024 + (i 1).val = (i 1).val; omega

/-! ## The kernel against the reference -/

/-- Both are the sum of the four blocks. -/
theorem meets (m : (ℓ : Loc nD τ sig) → Buf (Elt Ideal) ℓ) (w : Whole.Idx → Elt Ideal .f32)
    (hw : ∀ d : Dev nD, m ((d : Thread nD τ).loc main_arg0) = block w d) (c : Dev nD) :
    result (inp m) c = Host.reduceAdd (F := Ideal) w (constant Cert.ReferenceIdeal.S_ .f32 0x00000000#32)
      Cert.ReferenceIdeal.Gen.reducesTo_S2x2x1024x1024_S1024x1024_d0_1 Cert.ReferenceIdeal.Gen.h_S_ := by
  funext i
  rw [result_eq, Host.reduceAdd_apply, Ideal.hostReduceAdd_def]
  unfold Ideal.hostReduceAdd
  rw [Finset.sum_filter_eq_sum_of_fiber _ (fun d : Dev nD => place4 d i) (place4_inj i) (fiber _ i) w]
  have hz : constant (F := Ideal) Cert.ReferenceIdeal.S_ .f32 0x00000000#32 (Shape.Idx.first Cert.ReferenceIdeal.Gen.h_S_) = (0 : EReal) :=
    Ideal.ofBits_zero_f32
  refine Eq.trans ?_ (congrArg (· + ∑ d : Dev nD, w (place4 d i)) hz).symm
  refine Eq.trans ?_ (zero_add _).symm
  exact Finset.sum_congr rfl fun d _ => by rw [inp_eq, hw d, placed]

end Cert.KernelIdeal.AR
-- ==== Proof.lean ====
/- The five claims: the kernel's frame, its ideal reading's, the reference's, the reading itself, and the all-reduce's value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-! The kernel and its ideal reading are one text: at the device's floats they are the same functions and the same program. -/

theorem same_body (x) (hx) (o) (ho) (c) (hc) (s r) :
    Cert.Kernel.cc0_body (F := Bits) x hx o ho c hc s r = Cert.KernelIdeal.cc0_body (F := Bits) x hx o ho c hc s r := rfl

theorem same_label (p : Proc Cert.Kernel.τ) (l) (i) : Cert.Kernel.defs₀ (F := Bits) p l i = Cert.KernelIdeal.defs₀ (F := Bits) p l i := by
  match l with
  | 0 =>
    cases p with
    | tc => exact same_body ..
    | _ => rfl

theorem same_defs : Cert.Kernel.defs (F := Bits) = Cert.KernelIdeal.defs (F := Bits) :=
  congrArg (Pipeline.defs (Cert.Kernel.pcfgs (F := Bits))) (funext fun p => funext fun l => funext fun i => same_label p l i)

theorem same_main : Cert.Kernel.main (F := Bits) = Cert.KernelIdeal.main (F := Bits) := rfl

/-- So the run at the device's floats is the kernel's. -/
theorem frame_kernel : Cert.quiescent_Kernel := fun m ρ _ => by
  rw [same_defs, same_main]
  exact (θ_run Cert.KernelIdeal.defs _ _).mono (fun _ h => ⟨fun c => (h.1 c).1, h.2⟩) (Cert.KernelIdeal.AR.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.AR.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem all_reduce : Cert.algebraic_KernelIdeal_ReferenceIdeal := fun m ρ m' ρ' _ hw =>
  ⟨_, (θ_run Cert.KernelIdeal.defs _ _).mono
      (fun _ h c => ⟨((h.1 c).2).trans (Cert.KernelIdeal.AR.meets m _ hw c), (h.1 c).1⟩)
      (Cert.KernelIdeal.AR.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, all_reduce⟩

end Cert.Proof

end
